-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![768, 384]⟩ ⟨2, ![768, 1536]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![384, 768]⟩ ⟨2, ![1536, 768]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![192, 768]⟩ ⟨2, ![768, 768]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x384 : Shape := ⟨2, ![768, 384]⟩
abbrev S384x768 : Shape := ⟨2, ![384, 768]⟩
abbrev S192x768 : Shape := ⟨2, ![192, 768]⟩
abbrev S3x192x768 : Shape := ⟨3, ![3, 192, 768]⟩
abbrev S3 : Shape := ⟨1, ![3]⟩
abbrev S_ : Shape := ⟨0, ![]⟩
abbrev S192x384 : Shape := ⟨2, ![192, 384]⟩
abbrev S1x192x768 : Shape := ⟨3, ![1, 192, 768]⟩
abbrev S1 : Shape := ⟨1, ![1]⟩

abbrev nBuf : Space → Nat
  | .hbm => 3
  | .vmem => 6
  | .smem => 0
  | _ => 0

abbrev bufTy : (tb : Table) → Fin (tcTables nBuf tb) → BufTy
  | .hbm, ⟨0, _⟩ => ⟨S768x384, .f32⟩
  | .hbm, ⟨1, _⟩ => ⟨S384x768, .f32⟩
  | .hbm, ⟨2, _⟩ => ⟨S192x768, .f32⟩
  | .local _ .vmem, ⟨0, _⟩ => ⟨S768x384, .f32⟩
  | .local _ .vmem, ⟨1, _⟩ => ⟨S384x768, .f32⟩
  | .local _ .vmem, ⟨2, _⟩ => ⟨S192x768, .f32⟩
  | .local _ .vmem, ⟨3, _⟩ => ⟨S384x768, .bf16⟩
  | .local _ .vmem, ⟨4, _⟩ => ⟨S3x192x768, .bf16⟩
  | .local _ .vmem, ⟨5, _⟩ => ⟨S3x192x768, .bf16⟩
  | _, _ => ⟨S768x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c2_i32_30 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v49 : BitVec 32 := Scalar.addi v2 c2_i32_30
  let c4_i32_31 : BitVec 32 := 4#32
  let c0_i32_32 : BitVec 32 := 0#32
  let v50 : BitVec 1 := Scalar.cmpi .eq c4_i32_31 c0_i32_32
  let c1_i32_33 : BitVec 32 := 1#32
  let v51 : BitVec 32 := Scalar.select v50 c1_i32_33 c4_i32_31
  let v52 : BitVec 32 := Scalar.remsi v49 v51
  let c0_i32_35 : BitVec 32 := 0#32
  let v54 : BitVec 1 := Scalar.cmpi .slt v52 c0_i32_35
  let c0_i32_36 : BitVec 32 := 0#32
  let v55 : BitVec 1 := Scalar.cmpi .slt v51 c0_i32_36
  let v56 : BitVec 1 := Scalar.xori v54 v55
  let c0_i32_34 : BitVec 32 := 0#32
  let v53 : BitVec 1 := Scalar.cmpi .ne v52 c0_i32_34
  let v57 : BitVec 1 := Scalar.andi v56 v53
  let v58 : BitVec 32 := Scalar.addi v52 v51
  let v59 : BitVec 32 := Scalar.select v57 v58 v52
  let c192_i32 : BitVec 32 := 192#32
  let v60 : BitVec 32 := Scalar.muli v59 c192_i32
  let v61 : Index := Scalar.indexCast v60
  let c0_37 : Index := 0#32
  ![v61.toNat, 0]
def k0_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_30 : BitVec 32 := 2#32
  let v49 : BitVec 32 := Scalar.addi v2 c2_i32_30
  let c4_i32_31 : BitVec 32 := 4#32
  let c0_i32_32 : BitVec 32 := 0#32
  let v50 : BitVec 1 := Scalar.cmpi .eq c4_i32_31 c0_i32_32
  let c1_i32_33 : BitVec 32 := 1#32
  let v51 : BitVec 32 := Scalar.select v50 c1_i32_33 c4_i32_31
  let v52 : BitVec 32 := Scalar.remsi v49 v51
  let c0_i32_35 : BitVec 32 := 0#32
  let v54 : BitVec 1 := Scalar.cmpi .slt v52 c0_i32_35
  let c0_i32_36 : BitVec 32 := 0#32
  let v55 : BitVec 1 := Scalar.cmpi .slt v51 c0_i32_36
  let v56 : BitVec 1 := Scalar.xori v54 v55
  let c0_i32_34 : BitVec 32 := 0#32
  let v53 : BitVec 1 := Scalar.cmpi .ne v52 c0_i32_34
  let v57 : BitVec 1 := Scalar.andi v56 v53
  let v58 : BitVec 32 := Scalar.addi v52 v51
  let v59 : BitVec 32 := Scalar.select v57 v58 v52
  let c1_i32_47 : BitVec 32 := 1#32
  let v71 : BitVec 32 := Scalar.muli v59 c1_i32_47
  let v72 : BitVec 32 := Scalar.addi c0_i32_48 v71
  v72.toNat
def k0_dev5 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_53 : BitVec 32 := 1#32
  let v81 : BitVec 32 := Scalar.addi v2 c1_i32_53
  let c4_i32_54 : BitVec 32 := 4#32
  let c0_i32_55 : BitVec 32 := 0#32
  let v82 : BitVec 1 := Scalar.cmpi .eq c4_i32_54 c0_i32_55
  let c1_i32_56 : BitVec 32 := 1#32
  let v83 : BitVec 32 := Scalar.select v82 c1_i32_56 c4_i32_54
  let v84 : BitVec 32 := Scalar.remsi v81 v83
  let c0_i32_58 : BitVec 32 := 0#32
  let v86 : BitVec 1 := Scalar.cmpi .slt v84 c0_i32_58
  let c0_i32_59 : BitVec 32 := 0#32
  let v87 : BitVec 1 := Scalar.cmpi .slt v83 c0_i32_59
  let v88 : BitVec 1 := Scalar.xori v86 v87
  let c0_i32_57 : BitVec 32 := 0#32
  let v85 : BitVec 1 := Scalar.cmpi .ne v84 c0_i32_57
  let v89 : BitVec 1 := Scalar.andi v88 v85
  let v90 : BitVec 32 := Scalar.addi v84 v83
  let v91 : BitVec 32 := Scalar.select v89 v90 v84
  let c1_i32_72 : BitVec 32 := 1#32
  let v103 : BitVec 32 := Scalar.muli v91 c1_i32_72
  let v104 : BitVec 32 := Scalar.addi c0_i32_73 v103
  v104.toNat
def k0_dev6 (d0 : Dev nD) : Nat :=
  let c0_i32_97 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_78 : BitVec 32 := 3#32
  let v113 : BitVec 32 := Scalar.addi v2 c3_i32_78
  let c4_i32_79 : BitVec 32 := 4#32
  let c0_i32_80 : BitVec 32 := 0#32
  let v114 : BitVec 1 := Scalar.cmpi .eq c4_i32_79 c0_i32_80
  let c1_i32_81 : BitVec 32 := 1#32
  let v115 : BitVec 32 := Scalar.select v114 c1_i32_81 c4_i32_79
  let v116 : BitVec 32 := Scalar.remsi v113 v115
  let c0_i32_83 : BitVec 32 := 0#32
  let v118 : BitVec 1 := Scalar.cmpi .slt v116 c0_i32_83
  let c0_i32_84 : BitVec 32 := 0#32
  let v119 : BitVec 1 := Scalar.cmpi .slt v115 c0_i32_84
  let v120 : BitVec 1 := Scalar.xori v118 v119
  let c0_i32_82 : BitVec 32 := 0#32
  let v117 : BitVec 1 := Scalar.cmpi .ne v116 c0_i32_82
  let v121 : BitVec 1 := Scalar.andi v120 v117
  let v122 : BitVec 32 := Scalar.addi v116 v115
  let v123 : BitVec 32 := Scalar.select v121 v122 v116
  let c1_i32_96 : BitVec 32 := 1#32
  let v135 : BitVec 32 := Scalar.muli v123 c1_i32_96
  let v136 : BitVec 32 := Scalar.addi c0_i32_97 v135
  v136.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c192_i32_102 : BitVec 32 := 192#32
  let v145 : BitVec 32 := Scalar.muli v2 c192_i32_102
  let v146 : Index := Scalar.indexCast v145
  let c0_103 : Index := 0#32
  ![v146.toNat, 0]
abbrev stage0_0 : Fin 1 → Memref sig .tc .vmem S768x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S192x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S768x1536 : Shape := ⟨2, ![768, 1536]⟩
abbrev S1536x768 : Shape := ⟨2, ![1536, 768]⟩
abbrev S768x768 : Shape := ⟨2, ![768, 768]⟩

abbrev nBuf : Space → Nat
  | .hbm => 3
  | .vmem => 0
  | .smem => 0
  | _ => 0

abbrev bufTy : (tb : Table) → Fin (tcTables nBuf tb) → BufTy
  | .hbm, ⟨0, _⟩ => ⟨S768x1536, .f32⟩
  | .hbm, ⟨1, _⟩ => ⟨S1536x768, .f32⟩
  | .hbm, ⟨2, _⟩ => ⟨S768x768, .f32⟩
  | _, _ => ⟨S768x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdeal.Values.lean ====
/-
  What one device computes, written over the contents of its two operands alone.

  There are four devices. Device `c` holds a block of columns of `A` and the block of rows of `B` that
  meets it; their product is an addend of the whole of `A B`. It splits that addend into four chunks of
  rows, keeps chunk `c`, and sends the chunk of each other device to that device. `far j c` is the device
  `j + 1` steps on from `c`: the one that gets the chunk `c` lays in slot `j` of its sending buffer.
-/
module

public import proofs.«01_k».proof.Proof.Gen.KernelIdeal
public import proofs.«01_k».proof.Proof.Gen.KernelIdeal.Skeleton

@[expose] public section

noncomputable section

namespace Cert.KernelIdeal.Swap

open Cert.KernelIdeal Cert.KernelIdeal.Gen
open Idealize.ShloMosaic Idealize.ShloMosaic.TcCoe Idealize.SL.Sem

variable {F : FTy → Type} [FloatOps F]

/-! ## The devices around the mesh -/

/-- The device `j + 1` steps on from `c`. -/
def far (j : Fin 3) (c : Dev nD) : Dev nD := ⟨(c.val + (j.val + 1)) % 4, Nat.mod_lt _ (by decide)⟩

/-- The steps of `j` and of its mirror image add up to the whole way round. -/
theorem far_rev_far : ∀ (j : Fin 3) (c : Dev nD), far j.rev (far j c) = c := by decide
theorem far_far_rev : ∀ (j : Fin 3) (c : Dev nD), far j (far j.rev c) = c := by decide

/-- Going on by `j + 1` steps permutes the devices. -/
def around (j : Fin 3) : Dev nD ≃ Dev nD := ⟨far j, far j.rev, far_rev_far j, far_far_rev j⟩

theorem far_eq_iff (j : Fin 3) (d c : Dev nD) : far j d = c ↔ d = far j.rev c :=
  ⟨fun h => by rw [← h, far_rev_far], fun h => by rw [h, far_far_rev]⟩

/-- The three signals go one, two and three devices on. -/
theorem dev1_eq : ∀ c : Dev nD, (⟨k0_dev1 c, k0_dev1_lt c⟩ : Dev nD) = far 0 c := by decide +kernel
theorem dev2_eq : ∀ c : Dev nD, (⟨k0_dev2 c, k0_dev2_lt c⟩ : Dev nD) = far 1 c := by decide +kernel
theorem dev3_eq : ∀ c : Dev nD, (⟨k0_dev3 c, k0_dev3_lt c⟩ : Dev nD) = far 2 c := by decide +kernel
/-- The three transfers go two, one and three devices on. -/
theorem dev4_eq : ∀ c : Dev nD, (⟨k0_dev4 c, k0_dev4_lt c⟩ : Dev nD) = far 1 c := by decide +kernel
theorem dev5_eq : ∀ c : Dev nD, (⟨k0_dev5 c, k0_dev5_lt c⟩ : Dev nD) = far 0 c := by decide +kernel
theorem dev6_eq : ∀ c : Dev nD, (⟨k0_dev6 c, k0_dev6_lt c⟩ : Dev nD) = far 2 c := by decide +kernel

/-- The chunk of rows read for the device `s + 1` steps on starts at that device's rows. -/
theorem rows_at (c : Dev nD) (s : Fin 3) : k0_off1 c (BitVec.ofNat 32 (1 + s.val)) = ![192 * (far s c).val, 0] := by
  revert c s; decide +kernel

/-! ## Chunks and addends -/

theorem chunk_inb : ∀ (q : Dev nD) (a : Fin 2), (![192 * q.val, 0] : Fin 2 → Nat) a + S192x384.size a ≤ S768x384.size a := by decide

/-- Device `q`'s chunk of the rows of `a`. -/
def rows (a : Vec F S768x384 .f32) (q : Dev nD) : Vec F S192x384 .f32 :=
  (Memref.whole cc0_stg0_0 : Memref sig .tc .vmem S768x384 .f32).view.readAt (Elt F)
    (Rect.unit (s := S768x384) ![192 * q.val, 0] S192x384.size (chunk_inb q)).toLoadRect a

/-- A load of the rows at an offset that is device `q`'s reads device `q`'s chunk. -/
theorem readAt_rows (a : Vec F S768x384 .f32) (q : Dev nD) {off : Fin 2 → Nat} (h : off = ![192 * q.val, 0])
    (inb : ∀ i, off i + S192x384.size i ≤ S768x384.size i) :
    (Memref.whole cc0_stg0_0 : Memref sig .tc .vmem S768x384 .f32).view.readAt (Elt F)
      (Rect.unit (s := S768x384) off S192x384.size inb).toLoadRect a = rows a q := by
  subst h; rfl

/-- Device `q`'s chunk of the addend the operands `a` and `b` make. -/
def addend (a : Vec F S768x384 .f32) (b : Vec F S384x768 .f32) (q : Dev nD) : FVec F S192x768 .f32 :=
  k0_pay3 (rows a q) (k0_pay2 b)

/-- The same chunk as it travels: in half the bits, with a leading axis of extent one. -/
def packed (a : Vec F S768x384 .f32) (b : Vec F S384x768 .f32) (q : Dev nD) : Vec F S1x192x768 .bf16 :=
  k0_pay4 (addend a b q)

/-- The kernel states the three chunks it sends and the one it keeps in four ways, which agree. -/
theorem pay6_eq (x : Vec F S192x384 .f32) (y : Vec F S384x768 .bf16) : k0_pay6 (k0_pay5 x) y = k0_pay4 (k0_pay3 x y) := rfl
theorem pay8_eq (x : Vec F S192x384 .f32) (y : Vec F S384x768 .bf16) :
    k0_pay8 (k0_pay7 x) y (constant S192x768 .f32 0x00000000#32) = k0_pay4 (k0_pay3 x y) := rfl
theorem pay9_eq (x : Vec F S192x384 .f32) (y : Vec F S384x768 .bf16) : k0_pay9 x y = k0_pay3 x y := rfl

/-- The kept chunk and the three received ones, added up in the kernel's order. -/
def gathered (own : FVec F S192x768 .f32) (got : Fin 3 → Vec F S1x192x768 .bf16) : FVec F S192x768 .f32 :=
  k0_pay1 (k0_pay10 own (got 1)) (got 2) (got 0)

end Cert.KernelIdeal.Swap
-- ==== Proof.KernelIdeal.Protocol.lean ====
/-
  The exchange as a one-round protocol.

  Each device has seven semaphores of interest: the barrier, three for what it sends, three for what it
  receives. A device first tells the three others, one unit each on their barriers, that its receiving
  slots are theirs to fill; slot `j` goes to the device `j.rev + 1` steps on, the only one that ever
  writes it. It waits for three units on its own barrier and has then one slot of each other device in
  hand, which is where its three chunks go. A send's own semaphore gives the sending slot back, a receive
  semaphore gives the receiving slot back with the chunk in it.
-/
module

public import proofs.«01_k».proof.Proof.KernelIdeal.Values
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline's and the exchange's, whose duties are numbered by slot -/

abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ) (ρ : Dev nD → PrngReg)

/-- Launch: memory at any contents, all counters at zero. -/
def s₀ : MemSt nD τ sig (Elt F) := ⟨m, fun _ => 0, ρ⟩

/-! ## Slots -/

theorem slot_inb : ∀ (j : Fin 3) (a : Fin 3), (![j.val, 0, 0] : Fin 3 → Nat) a + S1x192x768.size a ≤ S3x192x768.size a := by decide

/-- Slot `j` of a three-slot buffer: its rectangle, the buffer cut to it, and the cut with the leading axis dropped. -/
abbrev slotR (j : Fin 3) : Rect S3x192x768 := Rect.unit (s := S3x192x768) ![j.val, 0, 0] S1x192x768.size (slot_inb j)
abbrev cut (M : Memref sig .tc .vmem S3x192x768 .bf16) (j : Fin 3) : Memref sig .tc .vmem S1x192x768 .bf16 := M.slice (slotR j) (fun _ => rfl)
abbrev slot (M : Memref sig .tc .vmem S3x192x768 .bf16) (j : Fin 3) : Memref sig .tc .vmem S192x768 .bf16 :=
  (cut M j).squeeze S192x768 squeezes_S1x192x768_S192x768

/-- The sending and the receiving buffer. -/
abbrev sM : Memref sig .tc .vmem S3x192x768 .bf16 := Memref.whole cc0_scratch1
abbrev rM : Memref sig .tc .vmem S3x192x768 .bf16 := Memref.whole cc0_scratch2

/-- Device `c` holds slot `j` of `M` at the contents `f`; -/
def held (M : Memref sig .tc .vmem S3x192x768 .bf16) (c : Dev nD) (j : Fin 3) (f : Buf (Elt F) ((slot M j).view.loc (c : Thread nD τ))) : sProp 𝕄 :=
  (slot M j).view.loc (c : Thread nD τ) ↦[(slot M j).view.set]{fullShare} f
/-- at any contents; -/
def free (M : Memref sig .tc .vmem S3x192x768 .bf16) (c : Dev nD) (j : Fin 3) : sProp 𝕄 := iprop(∃ f, held (F := F) M c j f)
/-- with the chunk `X` in it. -/
def full (M : Memref sig .tc .vmem S3x192x768 .bf16) (c : Dev nD) (j : Fin 3) (X : Vec F S1x192x768 .bf16) : sProp 𝕄 :=
  iprop(∃ f : Buf (Elt F) ((slot M j).view.loc (c : Thread nD τ)), ⌜(cut M j).view.read (Elt F) f = X⌝ ∗ held (F := F) M c j f)

instance free_storable (M) (c : Dev nD) (j : Fin 3) : BI.Storable (upEmb : UEmb _ 𝕄) (free (F := F) M c j) := by
  unfold free held; infer_instance
instance full_storable (M) (c : Dev nD) (j : Fin 3) (X) : BI.Storable (upEmb : UEmb _ 𝕄) (full (F := F) M c j X) := by
  unfold full held; infer_instance

theorem full_free (M) (c : Dev nD) (j : Fin 3) (X) : full (F := F) M c j X ⊢ free M c j := by
  unfold full free; iintro ⟨%f, -, H⟩; iexists f; iexact H

/-- What is read of a slot after the contents of another are copied over it is what was read of the other. -/
theorem read_copied (v w : View sig .tc .vmem S1x192x768 .bf16) (f : v.ty.Contents (Elt F)) (g : w.ty.Contents (Elt F))
    (h : S192x768.numel = S1x192x768.numel) :
    w.read (Elt F) ((w.reshape S192x768 h).write (Elt F) g ((v.reshape S192x768 h).read (Elt F) f) Finset.univ) = v.read (Elt F) f := by
  funext x
  have e := congrFun (View.read_write_univ (v := w.reshape S192x768 h) (Val := Elt F) g ((v.reshape S192x768 h).read (Elt F) f))
    ((Shape.reshapeEquiv h).symm x)
  have eq (u : View sig .tc .vmem S1x192x768 .bf16) (k : u.ty.Contents (Elt F)) :
      (u.reshape S192x768 h).read (Elt F) k ((Shape.reshapeEquiv h).symm x) = u.read (Elt F) k x := by
    show u.read (Elt F) k (Shape.reshapeEquiv h ((Shape.reshapeEquiv h).symm x)) = _
    rw [Equiv.apply_symm_apply]
  rw [eq v f] at e
  exact (eq w _).symm.trans e

/-! ## Cells -/

/-- The barrier, and the semaphores of sending slot `s` and receiving slot `j`. -/
abbrev barS : Sem sig := (SemArray.scalar (sig.barrier 0 rfl) : Sems sig S_).sem
def sendS (s : Fin 3) : DmaSem sig := ⟨3 + s.val, by have := s.isLt; show 3 + s.val < 9; omega⟩
def recvS (j : Fin 3) : DmaSem sig := ⟨6 + j.val, by have := j.isLt; show 6 + j.val < 9; omega⟩

abbrev barCell (c : Dev nD) : GSem nD τ sig := ((c : Thread nD τ), .reg barS)
abbrev sendCell (c : Dev nD) (s : Fin 3) : GSem nD τ sig := ((c : Thread nD τ), .dma (sendS s))
abbrev recvCell (c : Dev nD) (j : Fin 3) : GSem nD τ sig := ((c : Thread nD τ), .dma (recvS j))

/-- What a semaphore is for. -/
inductive Role where
  | bar
  | send (s : Fin 3)
  | recv (j : Fin 3)
  | other
  deriving DecidableEq

def roleOf : SemLoc sig → Role
  | .reg s => if s = barS then .bar else .other
  | .dma q => match q.val with
    | 3 => .send 0 | 4 => .send 1 | 5 => .send 2
    | 6 => .recv 0 | 7 => .recv 1 | 8 => .recv 2
    | _ => .other

theorem role_bar : roleOf (.reg barS) = .bar := by dsimp only [roleOf]; exact if_pos rfl
theorem role_send : ∀ s : Fin 3, roleOf (.dma (sendS s)) = .send s := by decide
theorem role_recv : ∀ j : Fin 3, roleOf (.dma (recvS j)) = .recv j := by decide

/-- The elements a transfer moves, as the semaphores count them. -/
abbrev N : ℕ := (slot rM 0).view.dmaCredit
theorem N_pos : 0 < N := View.dmaCredit_pos _ (by decide)

/-! ## Contents -/

/-- Device `c`'s operands, staged. -/
def aAt (c : Dev nD) : Vec F S768x384 .f32 := (win0_0.blk (0 : Fin 1)).view.read (Elt F) ((s₀ m ρ).mem ((c : Thread nD τ).loc main_arg0))
def bAt (c : Dev nD) : Vec F S384x768 .f32 := (win0_1.blk (0 : Fin 1)).view.read (Elt F) ((s₀ m ρ).mem ((c : Thread nD τ).loc main_arg1))

/-- What device `c` sends from slot `s`, -/
def sent (c : Dev nD) (s : Fin 3) : Vec F S1x192x768 .bf16 := packed (aAt m ρ c) (bAt m ρ c) (far s c)
/-- what it receives in slot `j`, -/
def got (c : Dev nD) (j : Fin 3) : Vec F S1x192x768 .bf16 := sent m ρ (far j c) j.rev
/-- and its result. -/
def outAt (c : Dev nD) : Vec F S192x768 .f32 := gathered (addend (aAt m ρ c) (bAt m ρ c) c) (got m ρ c)

theorem got_far (c : Dev nD) (s : Fin 3) : got m ρ (far s c) s.rev = sent m ρ c s := by
  unfold got; rw [far_rev_far, Fin.rev_rev]

/-! ## The schedule -/

/-- The payload of duty `d` of a cell of device `c`, by the cell's role. The barrier's duty `j` is paid by the
    device `j.rev + 1` steps on, with its own receiving slot `j`. -/
def pay (c : Dev nD) (d : Fin 3) : Role → sProp 𝕄
  | .bar => iprop(free rM (far d.rev c) d ∗ reached ER (recvCell (far d.rev c) d) 0)
  | .send s => free sM c s
  | .recv j => full rM c j (got m ρ c j)
  | .other => iprop(emp)

/-- The duties of a cell: a barrier's three, one of any other. -/
def dutiesOf : Role → Finset (Fin 3)
  | .bar => Finset.univ
  | .send _ => {0}
  | .recv _ => {0}
  | .other => ∅

/-- The exchange, all in round 0. -/
def ring : Rounds.Schedule (GSem nD τ sig) (Fin 3) 𝕄 where
  duties g r := if r = 0 ∧ g.1.2 = .tc then dutiesOf (roleOf g.2) else ∅
  unitless _ := False
  amount g _ _ := if roleOf g.2 = .bar then 1 else N
  payload g _ d := pay m ρ g.1.1 d (roleOf g.2)
  amount_pos g _ _ _ := by
    by_cases h : roleOf g.2 = .bar
    · rw [if_pos h]; exact Nat.one_pos
    · rw [if_neg h]; exact N_pos

instance ring_storable (g : GSem nD τ sig) (r : ℕ) (d : Fin 3) : BI.Storable (upEmb : UEmb _ 𝕄) ((ring (F := F) m ρ).payload g r d) := by
  show BI.Storable upEmb (pay m ρ g.1.1 d (roleOf g.2))
  cases roleOf g.2 <;> (dsimp only [pay]; infer_instance)

section Facts
variable (c : Dev nD)

theorem duties_bar : (ring (F := F) m ρ).duties (barCell c) 0 = Finset.univ := by
  dsimp only [ring]; rw [if_pos ⟨rfl, rfl⟩, role_bar]; rfl
theorem duties_send (s : Fin 3) : (ring (F := F) m ρ).duties (sendCell c s) 0 = {0} := by
  dsimp only [ring]; rw [if_pos ⟨rfl, rfl⟩, role_send]; rfl
theorem duties_recv (j : Fin 3) : (ring (F := F) m ρ).duties (recvCell c j) 0 = {0} := by
  dsimp only [ring]; rw [if_pos ⟨rfl, rfl⟩, role_recv]; rfl
theorem duties_later (g : GSem nD τ sig) : ∀ r, 1 ≤ r → (ring (F := F) m ρ).duties g r = ∅ :=
  fun r hr => if_neg fun h => by have := h.1; omega

theorem amount_bar (d : Fin 3) : (ring (F := F) m ρ).amount (barCell c) 0 d = 1 := by dsimp only [ring]; exact if_pos role_bar
theorem amount_send (s d : Fin 3) : (ring (F := F) m ρ).amount (sendCell c s) 0 d = N := by
  dsimp only [ring]; rw [role_send]; exact if_neg Role.noConfusion
theorem amount_recv (j d : Fin 3) : (ring (F := F) m ρ).amount (recvCell c j) 0 d = N := by
  dsimp only [ring]; rw [role_recv]; exact if_neg Role.noConfusion

theorem expect_bar : (ring (F := F) m ρ).expect (barCell c) 0 = 3 := by
  unfold Schedule.expect Schedule.amountOf
  rw [duties_bar, Finset.sum_congr rfl fun d _ => amount_bar m ρ c d]; rfl
theorem expect_send (s : Fin 3) : (ring (F := F) m ρ).expect (sendCell c s) 0 = N := by
  unfold Schedule.expect Schedule.amountOf; rw [duties_send, Finset.sum_singleton, amount_send]
theorem expect_recv (j : Fin 3) : (ring (F := F) m ρ).expect (recvCell c j) 0 = N := by
  unfold Schedule.expect Schedule.amountOf; rw [duties_recv, Finset.sum_singleton, amount_recv]

theorem payload_bar (d : Fin 3) : (ring (F := F) m ρ).payload (barCell c) 0 d
    = iprop(free rM (far d.rev c) d ∗ reached ER (recvCell (far d.rev c) d) 0) := by
  show pay m ρ c d (roleOf (.reg barS)) = _; rw [role_bar]; rfl
theorem payload_send (s d : Fin 3) : (ring (F := F) m ρ).payload (sendCell c s) 0 d = free sM c s := by
  show pay m ρ c d (roleOf (.dma (sendS s))) = _; rw [role_send]; rfl
theorem payload_recv (j d : Fin 3) : (ring (F := F) m ρ).payload (recvCell c j) 0 d = full rM c j (got m ρ c j) := by
  show pay m ρ c d (roleOf (.dma (recvS j))) = _; rw [role_recv]; rfl

/-- All that a barrier wait brings, and all that a transfer's wait brings. -/
theorem rest_bar : bigSep ((ring (F := F) m ρ).duties (barCell c) 0 \ ∅) (fun d => (ring (F := F) m ρ).payload (barCell c) 0 d)
    = bigSep Finset.univ fun d : Fin 3 => iprop(free (F := F) rM (far d.rev c) d ∗ reached ER (recvCell (far d.rev c) d) 0) := by
  rw [Finset.sdiff_empty, duties_bar]; exact bigSep_congr fun d _ => payload_bar m ρ c d
theorem rest_send (s : Fin 3) : bigSep ((ring (F := F) m ρ).duties (sendCell c s) 0 \ ∅) (fun d => (ring (F := F) m ρ).payload (sendCell c s) 0 d)
    = free sM c s := by
  rw [Finset.sdiff_empty, duties_send, bigSep_singleton, payload_send]
theorem rest_recv (j : Fin 3) : bigSep ((ring (F := F) m ρ).duties (recvCell c j) 0 \ ∅) (fun d => (ring (F := F) m ρ).payload (recvCell c j) 0 d)
    = full rM c j (got m ρ c j) := by
  rw [Finset.sdiff_empty, duties_recv, bigSep_singleton, payload_recv]

end Facts

/-! ## Debts and levels -/

/-- What device `c` owes for slot `s` it sends, and for its signal `j`. -/
abbrev owedSend (c : Dev nD) (s : Fin 3) : CellTallies nD τ sig Unit := tallyAt (recvCell (far s c) s.rev) () N
abbrev owedSig (c : Dev nD) (j : Fin 3) : CellTallies nD τ sig Unit := tallyAt (barCell (far j c)) () 1

/-- The debts left once all signals are given: the transfers, in the reverse of their order; -/
def O₁ (c : Dev nD) : CellTallies nD τ sig Unit := owedSend c 2 + owedSend c 0 + owedSend c 1
/-- and all of them at launch. -/
def O₀ (c : Dev nD) : CellTallies nD τ sig Unit := O₁ c + owedSig c 2 + owedSig c 1 + owedSig c 0

def L (g : GSem nD τ sig) : Finset Unit := if g.1.2 = .tc then {()} else ∅
/-- Barriers below receive semaphores, everything else below both. -/
def rank : Role → ℕ
  | .bar => 1
  | .recv _ => 2
  | _ => 0
def lv (g : GSem nD τ sig) (_ : Unit) : ℕ := rank (roleOf g.2)

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {n : ℕ} {u : Unit} (h : 0 < (tallyAt g' () n : CellTallies nD τ sig Unit) g u) : g = g' := by
  rw [tallyAt_apply] at h
  by_contra hn
  rw [if_neg fun h' => hn h'.1] at h
  exact Nat.lt_irrefl 0 h

theorem add_pos_cases {A B : CellTallies nD τ sig Unit} {g : GSem nD τ sig} {u : Unit} (h : 0 < (A + B) g u) : 0 < A g u ∨ 0 < B g u := by
  rw [Pi.add_apply, Finsupp.add_apply] at h; omega

/-- The transfers' debts are to receive semaphores; -/
theorem O₁_pos {c : Dev nD} {g : GSem nD τ sig} {u : Unit} (h : 0 < O₁ c g u) : ∃ (d : Dev nD) (j : Fin 3), g = recvCell d j := by
  rcases add_pos_cases h with h | h
  · rcases add_pos_cases h with h | h <;> exact ⟨_, _, tally_pos h⟩
  · exact ⟨_, _, tally_pos h⟩
/-- the others are to barriers. -/
theorem O₀_pos {c : Dev nD} {g : GSem nD τ sig} {u : Unit} (h : 0 < O₀ c g u) :
    (∃ (d : Dev nD) (j : Fin 3), g = recvCell d j) ∨ ∃ d : Dev nD, g = barCell d := by
  rcases add_pos_cases h with h | h
  · rcases add_pos_cases h with h | h
    · rcases add_pos_cases h with h | h
      · exact .inl (O₁_pos h)
      · exact .inr ⟨_, tally_pos h⟩
    · exact .inr ⟨_, tally_pos h⟩
  · exact .inr ⟨_, tally_pos h⟩

theorem lv_recv (d : Dev nD) (j : Fin 3) (u : Unit) : lv (recvCell d j) u = 2 := by unfold lv; rw [role_recv]; rfl
theorem lv_bar (d : Dev nD) (u : Unit) : lv (barCell d) u = 1 := by unfold lv; rw [role_bar]; rfl

/-- A device may wait on a semaphore of the lowest level whatever it owes of the above, -/
theorem mayWait_low (c : Dev nD) (q : DmaSem sig) (hq : rank (roleOf (.dma q)) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, j, rfl⟩ | ⟨d, rfl⟩ <;> exact Finset.mem_singleton_self _)
      (fun p hp => by rw [Finset.mem_singleton.mp hp]; exact hq.le)
      (fun g u hg => by
        rcases O₀_pos hg with ⟨d, j, rfl⟩ | ⟨d, rfl⟩
        · rw [lv_recv]; decide
        · rw [lv_bar]; decide)
  · rw [MayWait_zero]; iintro -; iempintro

/-- and on its barrier while it owes the transfers. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨d, j, rfl⟩ := O₁_pos hg; exact Finset.mem_singleton_self _)
    (fun p hp => by rw [Finset.mem_singleton.mp hp]; exact (lv_bar c ()).le)
    (fun g u hg => by obtain ⟨d, j, rfl⟩ := O₁_pos hg; rw [lv_recv]; decide)

end Cert.KernelIdeal.Swap
-- ==== Proof.KernelIdeal.State.lean ====
/-
  What each device has in hand: before the exchange, and after it.
-/
module

public import proofs.«01_k».proof.Proof.KernelIdeal.Protocol

@[expose] public section

noncomputable section

namespace Cert.KernelIdeal.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells, numbered -/

/-- A device's cells: its barrier, its sending slots' semaphores (`false`), its receiving slots' (`true`). -/
abbrev Key : Type := Option (Bool × Fin 3)
def semOf : Key → SemLoc sig
  | none => .reg barS
  | some (false, s) => .dma (sendS s)
  | some (true, j) => .dma (recvS j)
def cellAt (x : Dev nD × Key) : GSem nD τ sig := ((x.1 : Thread nD τ), semOf x.2)

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem sep_three (A B C X : sProp 𝕄) : iprop(A ∗ B ∗ C ∗ X) = iprop((A ∗ B ∗ C) ∗ X) := by
  have h : iprop(A ∗ B ∗ C ∗ X) ⊢ iprop((A ∗ B ∗ C) ∗ X) := by
    iintro ⟨H1, H2, H3, H4⟩
    isplitr [H4]
    · isplitl [H1]; · iexact H1
      isplitl [H2] <;> iassumption
    · iexact H4
  have h' : iprop((A ∗ B ∗ C) ∗ X) ⊢ iprop(A ∗ B ∗ C ∗ X) := by
    iintro ⟨⟨H1, H2, H3⟩, H4⟩
    isplitl [H1]; · iexact H1
    isplitl [H2]; · iexact H2
    isplitl [H3] <;> iassumption
  exact BI.equiv_iff.mp ⟨h, h'⟩

/-- Something for every cell of a device: for its barrier, for the sending slots, for the receiving ones. -/
theorem bigSep_key (Φ : Key → sProp 𝕄) : bigSep Finset.univ Φ
    = iprop(Φ none ∗ (bigSep Finset.univ fun s : Fin 3 => Φ (some (false, s))) ∗ bigSep Finset.univ fun j : Fin 3 => Φ (some (true, j))) := by
  rw [bigSep_univ_eq_bigSepL [none, some (false, 0), some (false, 1), some (false, 2), some (true, 0), some (true, 1), some (true, 2)]
    (by decide) (by decide) Φ, bigSep_fin3, bigSep_fin3]
  exact congrArg (fun X => iprop(Φ none ∗ X)) (sep_three _ _ _ _)

/-! ## What is shared: every cell's invariant, at some name, and that its round 0 is reached -/

def records (K : Dev nD × Key → ℕ) : sProp 𝕄 :=
  bigSep Finset.univ fun x : Dev nD × Key => iprop(cellInv ER (ring m ρ) (K x) (cellAt x) ∗ reached ER (cellAt x) 0)

instance records_persistent (K : Dev nD × Key → ℕ) : BI.Persistent (records m ρ K) := by unfold records; infer_instance

section Lookup
variable (K : Dev nD × Key → ℕ) (c : Dev nD)

theorem record_of (x : Dev nD × Key) : records m ρ K ⊢ iprop(cellInv ER (ring m ρ) (K x) (cellAt x) ∗ reached ER (cellAt x) 0) :=
  bigSep_elim (Finset.mem_univ x)
theorem inv_of (x : Dev nD × Key) : records m ρ K ⊢ cellInv ER (ring m ρ) (K x) (cellAt x) := by
  iintro H; ihave H' := (record_of m ρ K x) $$ H; icases H' with ⟨H, -⟩; iexact H
theorem reached_of (x : Dev nD × Key) : records m ρ K ⊢ reached ER (cellAt x) 0 := by
  iintro H; ihave H' := (record_of m ρ K x) $$ H; icases H' with ⟨-, H⟩; iexact H

theorem inv_bar : records m ρ K ⊢ cellInv ER (ring m ρ) (K (c, none)) (barCell c) := inv_of m ρ K (c, none)
theorem inv_send (s : Fin 3) : records m ρ K ⊢ cellInv ER (ring m ρ) (K (c, some (false, s))) (sendCell c s) := inv_of m ρ K (c, some (false, s))
theorem inv_recv (j : Fin 3) : records m ρ K ⊢ cellInv ER (ring m ρ) (K (c, some (true, j))) (recvCell c j) := inv_of m ρ K (c, some (true, j))
theorem reached_bar : records m ρ K ⊢ reached ER (barCell c) 0 := reached_of m ρ K (c, none)
theorem reached_send (s : Fin 3) : records m ρ K ⊢ reached ER (sendCell c s) 0 := reached_of m ρ K (c, some (false, s))
theorem reached_recv (j : Fin 3) : records m ρ K ⊢ reached ER (recvCell c j) 0 := reached_of m ρ K (c, some (true, j))

end Lookup

/-! ## What is a device's own -/

/-- Its positions: at round 0 of each of its cells. -/
def posns (c : Dev nD) : sProp 𝕄 :=
  iprop(atPos ER (barCell c) 0 ∅ 0 ∗ (bigSep Finset.univ fun s : Fin 3 => atPos ER (sendCell c s) 0 ∅ 0)
    ∗ bigSep Finset.univ fun j : Fin 3 => atPos ER (recvCell c j) 0 ∅ 0)

/-- The duties it pays: its signal `j`, slot `s`'s sending and its arrival. -/
def pays (c : Dev nD) : sProp 𝕄 :=
  iprop((bigSep Finset.univ fun j : Fin 3 => dutyTok ER (barCell (far j c)) 0 j)
    ∗ (bigSep Finset.univ fun s : Fin 3 => dutyTok ER (sendCell c s) 0 0)
    ∗ bigSep Finset.univ fun s : Fin 3 => dutyTok ER (recvCell (far s c) s.rev) 0 0)

/-- What it starts with: all of that, the credit for its waits, and the levels. -/
def start (c : Dev nD) : sProp 𝕄 :=
  iprop((∃ K, records m ρ K ∗ posns c ∗ pays c)
    ∗ (cred (tallyAt (barCell c) () 3) ∗ bigSep Finset.univ fun j : Fin 3 => cred (tallyAt (recvCell c j) () N)) ∗ levAts L lv)

/-- Its scratch memory: the rounded operand's buffer, and the slots. -/
def scratch (c : Dev nD) : sProp 𝕄 :=
  iprop((∃ f : Buf (Elt F) ((c : Thread nD τ).loc cc0_scratch0), ((c : Thread nD τ).loc cc0_scratch0) ↦{fullShare} f)
    ∗ (bigSep Finset.univ fun s : Fin 3 => free sM c s) ∗ bigSep Finset.univ fun j : Fin 3 => free rM c j)

/-- All its counters at zero. -/
def zeros (c : Dev nD) : sProp 𝕄 :=
  iprop(semVal (barCell c) 0 ∗ (bigSep Finset.univ fun s : Fin 3 => semVal (sendCell c s) 0)
    ∗ bigSep Finset.univ fun j : Fin 3 => semVal (recvCell c j) 0)

/-- Before and after the exchange. -/
def Φ₀ (c : Dev nD) : sProp 𝕄 := iprop(start m ρ c ∗ scratch c)
def Φ₁ (c : Dev nD) : sProp 𝕄 := iprop(zeros c ∗ scratch c)

/-- The launch's data: the two operands are left as they are, the result is `outAt`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aAt m ρ c
    | ⟨1, _⟩ => bAt m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

end Cert.KernelIdeal.Swap
-- ==== Proof.KernelIdeal.Steps.lean ====
/-
  The steps of the exchange, each stated once for every device and every slot.
-/
module

public import proofs.«01_k».proof.Proof.KernelIdeal.State

@[expose] public section

noncomputable section

namespace Cert.KernelIdeal.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Key → ℕ) (c : Dev nD)

/-! ## Signals and waits -/

/-- Signal `j`: device `c` gives its receiving slot `j` to the device `j + 1` steps on, and is rid of that debt. -/
theorem step_signal (j : Fin 3) {n : Dev nD} (hn : n = far j c) {u : ℕ} (hu : u = 1)
    {O O' : CellTallies nD τ sig Unit} (hO : O' = O + owedSig c j) (W : Waits sig Unit)
    {α : Type} {Q : α → sProp 𝕄} {k : PUnit → Prog (TpuEff nD τ sig (Elt F) Λ₀ .tc) α} :
    iprop(records m ρ K ∗ owes (c : Thread nD τ) O' W ∗ dutyTok ER (barCell (far j c)) 0 j ∗ free rM c j)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS u) k) Q) := by
  subst hn hu
  iintro ⟨#HR, HO, Ht, Hs⟩ Hk
  iapply (Rounds.wp_signal 𝒱₀ ER (ring m ρ) (c : Thread nD τ) none (dst := (far j c : Thread nD τ)) (κ := K (far j c, none))
      (d := j) (by rw [duties_bar]; exact Finset.mem_univ _) (amount_bar m ρ (far j c) j) () O hO) $$ [HO Ht Hs]
  · isplitr; · iapply (inv_bar m ρ K (far j c)); iexact HR
    isplitl [HO]; · iexact HO
    isplitl [Ht]; · iexact Ht
    isplitl [Hs]
    · rw [payload_bar, far_rev_far]
      isplitl [Hs]; · iexact Hs
      iapply (reached_recv m ρ K c j); iexact HR
    · iapply (reached_bar m ρ K (far j c)); iexact HR
  · iexact Hk

/-- The wait at the barrier, with the transfers still owed: the slots of the other devices come with it, and the
    barrier's counter is back at zero. -/
theorem step_barrier {u : ℕ} (hu : u = 3) (W : Waits sig Unit) {α : Type} {Q : α → sProp 𝕄} {k : PUnit → Prog (TpuEff nD τ sig (Elt F) Λ₀ .tc) α} :
    iprop(records m ρ K ∗ levAts L lv ∗ cred (tallyAt (barCell c) () 3) ∗ owes (c : Thread nD τ) (O₁ c) W ∗ atPos ER (barCell c) 0 ∅ 0)
      ⊢ iprop((owes (c : Thread nD τ) (O₁ c) (insert (SemLoc.reg barS, ()) W)
            ∗ (bigSep Finset.univ fun d : Fin 3 => iprop(free (F := F) rM (far d.rev c) d ∗ reached ER (recvCell (far d.rev c) d) 0))
            ∗ semVal (barCell c) 0
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS u) k) Q) := by
  subst hu
  iintro ⟨#HR, #Hlev, Hc, HO, Hat⟩ Hk
  iapply (Rounds.wp_wait_rest_token 𝒱₀ ER (ring m ρ) (c : Thread nD τ) none (κ := K (c, none))
      (wpE_semWait_eq 𝒱₀ (c : Thread nD τ) none Set.univ) (Set.mem_univ _) () (O := O₁ c) (W := W) (R := 0) (m := 0) (T := ∅)
      (by rw [expect_bar])) $$ [Hc HO Hat]
  · isplitr; · iapply (inv_bar m ρ K c); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (ring m ρ) (Set.mem_univ (K (c, none))) (fun h => h) (R := 0 + 1) (duties_later m ρ (barCell c))) $$ [Hat] with Hz
  · isplitr; · iapply (inv_bar m ρ K c); iexact HR
    iexact Hat
  iapply Hk
  isplitl [HO]; · iexact HO
  isplitl [Hp] <;> iassumption

/-- The wait for slot `s` to have left: the slot is free again, its counter at zero. -/
theorem step_wait_send (s : Fin 3) {q : DmaSem sig} (hq : q = sendS s) {X : Memref sig .tc .vmem S192x768 .bf16} {Y : Memref sig .tc .vmem S192x768 .bf16}
    {hX : X.view.WordExact} {hY : Y.view.WordExact} (hY' : Y = slot sM s) (W : Waits sig Unit)
    {α : Type} {Q : α → sProp 𝕄} {k : PUnit → Prog (TpuEff nD τ sig (Elt F) Λ₀ .tc) α} :
    iprop(records m ρ K ∗ cred (tallyAt (sendCell c s) () N) ∗ owes (c : Thread nD τ) 0 W ∗ atPos ER (sendCell c s) 0 ∅ 0)
      ⊢ iprop((owes (c : Thread nD τ) 0 (insert (SemLoc.dma (sendS s), ()) W) ∗ free sM c s ∗ semVal (sendCell c s) 0
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q X Y hX hY) k) Q) := by
  subst hq hY'
  have hN : (slot sM s).view.dmaCredit = N := rfl
  rw [← hN]
  iintro ⟨#HR, Hc, HO, Hat⟩ Hk
  iapply (Rounds.wp_wait_rest_token 𝒱₀ ER (ring m ρ) (c : Thread nD τ) none (κ := K (c, some (false, s)))
      (wpE_waitDma2_eq 𝒱₀ (c : Thread nD τ) none Set.univ) (Set.mem_univ _) () (O := 0) (W := W) (R := 0) (m := 0) (T := ∅)
      (by rw [Nat.zero_add, expect_send, hN])) $$ [Hc HO Hat]
  · isplitr; · iapply (inv_send m ρ K c s); iexact HR
    isplitl [Hc]; · iexact Hc
    isplitl [HO]; · iexact HO
    isplitr; · rw [MayWait_zero]; iempintro
    iexact Hat
  iintro ⟨HO, Hat, -, Hpay⟩
  ihave Hp := (Entails.of_eq (rest_send m ρ c s)) $$ Hpay
  imod (Rounds.cell_close ER (ring m ρ) (Set.mem_univ (K (c, some (false, s)))) (fun h => h) (R := 0 + 1) (duties_later m ρ (sendCell c s))) $$ [Hat] with Hz
  · isplitr; · iapply (inv_send m ρ K c s); iexact HR
    iexact Hat
  iapply Hk
  isplitl [HO]; · iexact HO
  isplitl [Hp] <;> iassumption

/-- The wait for slot `j` to be filled: the slot comes with what was sent to it, its counter at zero. -/
theorem step_wait_recv (j : Fin 3) {q : DmaSem sig} (hq : q = recvS j) {X : Memref sig .tc .vmem S192x768 .bf16} {Y : Memref sig .tc .vmem S192x768 .bf16}
    {hX : X.view.WordExact} {hY : Y.view.WordExact} (hY' : Y = slot rM j) (W : Waits sig Unit)
    {α : Type} {Q : α → sProp 𝕄} {k : PUnit → Prog (TpuEff nD τ sig (Elt F) Λ₀ .tc) α} :
    iprop(records m ρ K ∗ cred (tallyAt (recvCell c j) () N) ∗ owes (c : Thread nD τ) 0 W ∗ atPos ER (recvCell c j) 0 ∅ 0)
      ⊢ iprop((owes (c : Thread nD τ) 0 (insert (SemLoc.dma (recvS j), ()) W) ∗ full rM c j (got m ρ c j) ∗ semVal (recvCell c j) 0
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q X Y hX hY) k) Q) := by
  subst hq hY'
  have hN : (slot rM j).view.dmaCredit = N := rfl
  rw [← hN]
  iintro ⟨#HR, Hc, HO, Hat⟩ Hk
  iapply (Rounds.wp_wait_rest_token 𝒱₀ ER (ring m ρ) (c : Thread nD τ) none (κ := K (c, some (true, j)))
      (wpE_waitDma2_eq 𝒱₀ (c : Thread nD τ) none Set.univ) (Set.mem_univ _) () (O := 0) (W := W) (R := 0) (m := 0) (T := ∅)
      (by rw [Nat.zero_add, expect_recv, hN])) $$ [Hc HO Hat]
  · isplitr; · iapply (inv_recv m ρ K c j); iexact HR
    isplitl [Hc]; · iexact Hc
    isplitl [HO]; · iexact HO
    isplitr; · rw [MayWait_zero]; iempintro
    iexact Hat
  iintro ⟨HO, Hat, -, Hpay⟩
  ihave Hp := (Entails.of_eq (rest_recv m ρ c j)) $$ Hpay
  imod (Rounds.cell_close ER (ring m ρ) (Set.mem_univ (K (c, some (true, j)))) (fun h => h) (R := 0 + 1) (duties_later m ρ (recvCell c j))) $$ [Hat] with Hz
  · isplitr; · iapply (inv_recv m ρ K c j); iexact HR
    iexact Hat
  iapply Hk
  isplitl [HO]; · iexact HO
  isplitl [Hp] <;> iassumption

/-! ## Transfers -/

/-- The transfer of slot `s` to the device `s + 1` steps on, into its slot `s.rev`, once the chunk is laid in the
    slot and the other device's slot is in hand. -/
theorem step_send (s : Fin 3) {n : Dev nD} (hn : n = far s c) {qs qr : DmaSem sig} (hqs : qs = sendS s) (hqr : qr = recvS s.rev)
    {X Y : Memref sig .tc .vmem S192x768 .bf16} (hX : X = slot sM s) (hY : Y = slot rM s.rev)
    {hsc : (Y : Memref sig (Dev.tc n : Thread nD τ).2.kind .vmem S192x768 .bf16).view.ref.isScScratch = false}
    {hsrc : X.view.WordExact} {hdst : Y.view.WordExact}
    {hsem : DmaTarget.Typed .vmem (.dma qr) (.remote (Dev.tc n : Thread nD τ) Y (.dma qs) hsc)}
    {O O' : CellTallies nD τ sig Unit} (hO : O' = O + owedSend c s) (W : Waits sig Unit)
    {α : Type} {Q : α → sProp 𝕄} {k : PUnit → Prog (TpuEff nD τ sig (Elt F) Λ₀ .tc) α} :
    iprop(records m ρ K ∗ full sM c s (sent m ρ c s) ∗ free rM (far s c) s.rev ∗ owes (c : Thread nD τ) O' W
        ∗ dutyTok ER (sendCell c s) 0 0 ∗ dutyTok ER (recvCell (far s c) s.rev) 0 0)
      ⊢ iprop((cred (tallyAt (sendCell c s) () N) ∗ owes (c : Thread nD τ) O W
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma X (.remote (Dev.tc n : Thread nD τ) Y (.dma qs) hsc) (.dma qr) hsrc hdst hsem) k) Q) := by
  subst hn hqs hqr hX hY
  unfold full free
  iintro ⟨#HR, ⟨%f, %hf, Hs⟩, ⟨%g, Hd⟩, HO, Hts, Htr⟩ Hk
  unfold held
  iapply (Rounds.wp_send_pointsTo 𝒱₀ ER (ring m ρ) (c : Thread nD τ) none (κ₁ := K (c, some (false, s))) (κ₂ := K (far s c, some (true, s.rev)))
    (r₁ := 0) (r₂ := 0) (d₁ := 0) (d₂ := 0) (fd := g)
    (by rw [duties_send]; exact Finset.mem_singleton_self _) (by rw [duties_recv]; exact Finset.mem_singleton_self _)
    () () N rfl (amount_send m ρ c s 0) (amount_recv m ρ (far s c) s.rev 0) O hO (W := W)
    (by rw [payload_send]; unfold free held; iintro H; iexists f; iexact H)
    (by
      rw [payload_recv]; unfold full held
      iintro H
      iexists _
      isplitr
      · ipureintro
        exact (read_copied (cut sM s).view (cut rM s.rev).view f g _).trans (hf.trans (got_far m ρ c s).symm)
      · iexact H)) $$ [Hs Hd HO Hts Htr]
  · isplitr; · iapply (inv_send m ρ K c s); iexact HR
    isplitr; · iapply (inv_recv m ρ K (far s c) s.rev); iexact HR
    isplitl [Hs]; · iexact Hs
    isplitl [Hd]; · iexact Hd
    isplitl [HO]; · iexact HO
    isplitl [Hts]; · iexact Hts
    isplitr; · iapply (reached_send m ρ K c s); iexact HR
    isplitl [Htr]; · iexact Htr
    iapply (reached_recv m ρ K (far s c) s.rev); iexact HR
  · iexact Hk

/-! ## Loads and stores of slots -/

theorem slot_loaded (M : Memref sig .tc .vmem S3x192x768 .bf16) (j : Fin 3) : M.view.setOn (slotR j).toLoadRect.set ⊆ (slot M j).view.set := by
  rw [View.set_reshape]
  exact (View.set_slice _ _).symm.subset

/-- A load of a slot whose contents do not matter. -/
theorem step_peek (M : Memref sig .tc .vmem S3x192x768 .bf16) (j : Fin 3) {r : Rect S3x192x768} (hr : r = slotR j)
    {hl : M.view.LoadsAt r.toLoadRect} {α : Type} {Q : α → sProp 𝕄} {k : (r.toLoadRect.shape.Idx → Elt F .bf16) → Prog (TpuEff nD τ sig (Elt F) Λ₀ .tc) α} :
    (free M c j : sProp 𝕄)
      ⊢ iprop((∀ v, free M c j -∗ wp frame (wpE (defs₀ (F := F)) 𝒱₀ (c : Thread nD τ) none) Set.univ (k v) Q)
        -∗ wp frame (wpE (defs₀ (F := F)) 𝒱₀ (c : Thread nD τ) none) Set.univ (.op (.load M r.toLoadRect hl) k) Q) := by
  subst hr
  unfold free held
  iintro ⟨%f, H⟩ Hk
  iapply (wp_load 𝒱₀ (c : Thread nD τ) none Set.univ (m := M) (slot_loaded M j)) $$ H
  iintro H
  iapply Hk
  iexists f; iexact H

/-- A load of a slot that holds `X`. -/
theorem step_load (M : Memref sig .tc .vmem S3x192x768 .bf16) (j : Fin 3) (X : Vec F S1x192x768 .bf16)
    {hl : M.view.LoadsAt (slotR j).toLoadRect} {α : Type} {Q : α → sProp 𝕄} {k : Vec F S1x192x768 .bf16 → Prog (TpuEff nD τ sig (Elt F) Λ₀ .tc) α} :
    (full M c j X : sProp 𝕄)
      ⊢ iprop((full M c j X -∗ wp frame (wpE (defs₀ (F := F)) 𝒱₀ (c : Thread nD τ) none) Set.univ (k X) Q)
        -∗ wp frame (wpE (defs₀ (F := F)) 𝒱₀ (c : Thread nD τ) none) Set.univ (.op (.load M (slotR j).toLoadRect hl) k) Q) := by
  unfold full held
  iintro ⟨%f, %hf, H⟩ Hk
  iapply (wp_load 𝒱₀ (c : Thread nD τ) none Set.univ (m := M) (slot_loaded M j)) $$ H
  iintro H
  rw [show M.view.readAt (Elt F) (slotR j).toLoadRect f = X from hf]
  iapply Hk
  iexists f
  isplitr; · (ipureintro; exact hf)
  iexact H

/-- A store of `X` over a slot. -/
theorem step_store (M : Memref sig .tc .vmem S3x192x768 .bf16) (j : Fin 3) (X : Vec F S1x192x768 .bf16)
    {hx : (M.access (slotR j)).Stores Finset.univ} {hm} {α : Type} {Q : α → sProp 𝕄} {k : PUnit → Prog (TpuEff nD τ sig (Elt F) Λ₀ .tc) α} :
    (free M c j : sProp 𝕄)
      ⊢ iprop((full M c j X -∗ wp frame (wpE (defs₀ (F := F)) 𝒱₀ (c : Thread nD τ) none) Set.univ (k ⟨⟩) Q)
        -∗ wp frame (wpE (defs₀ (F := F)) 𝒱₀ (c : Thread nD τ) none) Set.univ (.op (.store M (slotR j) X Finset.univ hx hm) k) Q) := by
  unfold free full held
  iintro ⟨%f, H⟩ Hk
  iapply (wp_store 𝒱₀ (c : Thread nD τ) none Set.univ (m := M) (r := slotR j) (Mk := Finset.univ)
    (by rw [View.setOn_univ, View.set_reshape])) $$ H
  iintro H
  iapply Hk
  iexists _
  isplitr
  · ipureintro; exact View.read_write_univ (v := (M.access (slotR j))) f X
  · iexact H

end Cert.KernelIdeal.Swap
-- ==== Proof.KernelIdeal.Body.lean ====
/-
  The body on one device: from what it holds before the exchange to what it holds after.
-/
module

public import proofs.«01_k».proof.Proof.KernelIdeal.Steps

@[expose] public section

noncomputable section

namespace Cert.KernelIdeal.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Whole buffers -/

/-- Buffer `b` of device `c` whole, at the contents `X`. -/
abbrev whole (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_is_whole (c : Dev nD) (b : Ref sig .tc) (X : b.ty.Contents (Elt F)) :
    (owns (Ix := Unit) (Name := ℕ) (U := UU) (Lvl := ℕ) (c : Thread nD τ) (Memref.whole b) fullShare X : sProp 𝕄) = whole c b X := by
  unfold owns; simp only [Memref.view_whole, View.read_whole, View.set_whole]

theorem origin : (![0, 0] : Fin 2 → Nat) = fun _ => 0 := funext fun a => by fin_cases a <;> rfl

/-- The staged buffers and the rounded operand's. -/
abbrev aM : Memref sig .tc .vmem S768x384 .f32 := Memref.whole cc0_stg0_0
abbrev bM : Memref sig .tc .vmem S384x768 .f32 := Memref.whole cc0_stg1_0
abbrev oM : Memref sig .tc .vmem S192x768 .f32 := Memref.whole cc0_stg2_0
abbrev hM : Memref sig .tc .vmem S384x768 .bf16 := Memref.whole cc0_scratch0

abbrev rB : Rect S384x768 := Rect.unit (s := S384x768) ![0, 0] S384x768.size inb_S384x768_S384x768_0_0
abbrev rO : Rect S192x768 := Rect.unit (s := S192x768) ![0, 0] S192x768.size inb_S192x768_S192x768_0_0

theorem read_b (f : (cc0_stg1_0 : Ref sig .tc).ty.Contents (Elt F)) : bM.view.readAt (Elt F) rB.toLoadRect f = f :=
  Memref.readAt_unit_zero (Elt F) cc0_stg1_0 origin _ f
theorem read_h (f : (cc0_scratch0 : Ref sig .tc).ty.Contents (Elt F)) : hM.view.readAt (Elt F) rB.toLoadRect f = f :=
  Memref.readAt_unit_zero (Elt F) cc0_scratch0 origin _ f
theorem write_h (f w : (cc0_scratch0 : Ref sig .tc).ty.Contents (Elt F)) :
    (hM.access rB : View sig .tc _ _ _).write (Elt F) f w Finset.univ = w :=
  Memref.write_access_unit_zero_univ (Elt F) cc0_scratch0 origin _ f w
theorem write_o (f w : (cc0_stg2_0 : Ref sig .tc).ty.Contents (Elt F)) :
    (oM.access rO : View sig .tc _ _ _).write (Elt F) f w Finset.univ = w :=
  Memref.write_access_unit_zero_univ (Elt F) cc0_stg2_0 origin _ f w

/-- The rows a device sends one, two and three steps on start at the other device's. -/
theorem sent_at_one (c : Dev nD) : k0_off1 c 1#32 = ![192 * (far 0 c).val, 0] := rows_at c 0
theorem sent_at_two (c : Dev nD) : k0_off1 c 2#32 = ![192 * (far 1 c).val, 0] := rows_at c 1
theorem sent_at_three (c : Dev nD) : k0_off1 c 3#32 = ![192 * (far 2 c).val, 0] := rows_at c 2
/-- The rows a device keeps for itself start at its own. -/
theorem kept_at : ∀ c : Dev nD, k0_off2 c = ![192 * c.val, 0] := by decide +kernel

/-! ## The body -/

section Body

variable (K : Dev nD × Key → ℕ)

/-- What the body starts from, the names of the invariants fixed, -/
def bodyPre (c : Dev nD) : sProp 𝕄 :=
  iprop((records m ρ K ∗ posns c ∗ pays c)
    ∗ (cred (tallyAt (barCell c) () 3) ∗ bigSep Finset.univ fun j : Fin 3 => cred (tallyAt (recvCell c j) () N)) ∗ levAts L lv
    ∗ scratch c ∗ (dats m ρ 0 c).owesAt () t0_0.castSucc
    ∗ (∃ d, whole c cc0_stg0_0 ((dats m ρ 0 c).before (0 : Fin 3) t0_0 d))
    ∗ (∃ d, whole c cc0_stg1_0 ((dats m ρ 0 c).before (1 : Fin 3) t0_0 d))
    ∗ (∃ d, whole c cc0_stg2_0 ((dats m ρ 0 c).before (2 : Fin 3) t0_0 d)))

/-- and what it ends with. -/
def bodyPost (c : Dev nD) : sProp 𝕄 :=
  iprop(Φ₁ c ∗ (dats m ρ 0 c).owesAt () t0_0.succ ∗ whole c cc0_stg0_0 (aAt m ρ c) ∗ whole c cc0_stg1_0 (bAt m ρ c)
    ∗ whole c cc0_stg2_0 (outAt m ρ c))

set_option maxRecDepth 8000 in
set_option maxHeartbeats 4000000 in
/-- The body, run effect by effect. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body aM (Memref.isWhole_whole _) bM (Memref.isWhole_whole _) oM (Memref.isWhole_whole _) hM (Memref.isWhole_whole _)
            sM (Memref.isWhole_whole _) rM (Memref.isWhole_whole _) cc0_scratch3 cc0_scratch4) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold bodyPre posns pays scratch
  simp only [bigSep_fin3]
  iintro ⟨⟨⟨#HR, ⟨HpB, ⟨HpS0, HpS1, HpS2⟩, ⟨HpR0, HpR1, HpR2⟩⟩, ⟨HtB0, HtB1, HtB2⟩, ⟨HtS0, HtS1, HtS2⟩, ⟨HtR0, HtR1, HtR2⟩⟩,
    ⟨HcB, HcR0, HcR1, HcR2⟩, #Hlev, ⟨⟨%fh, Hh⟩, ⟨Hs0, Hs1, Hs2⟩, ⟨Hr0, Hr1, Hr2⟩⟩, Ho,
    ⟨%d0, %g0, %hg0, Ha⟩, ⟨%d1, %g1, %hg1, Hb⟩, ⟨%d2, %g2, %hg2, Hout⟩⟩, Hk⟩
  have ha : g0 = aAt m ρ c := by rw [hg0]; unfold Dat.before; rw [if_pos (by first | exact fetch0_0 _ | rfl)]; rfl
  have hb : g1 = bAt m ρ c := by rw [hg1]; unfold Dat.before; rw [if_pos (by first | exact fetch0_1 _ | rfl)]; rfl
  subst ha hb
  unfold Dat.owesAt Pipeline.owesWithin
  icases Ho with ⟨%W, %hW, HO⟩
  rw [show (dats m ρ 0 c).owed t0_0.castSucc = O₀ c from rfl]
  -- the three receiving slots are given away
  iapply (step_signal m ρ K c 0 (dev1_eq c) rfl (O := O₁ c + owedSig c 2 + owedSig c 1) rfl W) $$ [HO HtB0 Hr0]
  · isplitr; · iexact HR
    isplitl [HO]; · iexact HO
    isplitl [HtB0] <;> iassumption
  iintro HO
  iapply (step_signal m ρ K c 1 (dev2_eq c) rfl (O := O₁ c + owedSig c 2) rfl W) $$ [HO HtB1 Hr1]
  · isplitr; · iexact HR
    isplitl [HO]; · iexact HO
    isplitl [HtB1] <;> iassumption
  iintro HO
  iapply (step_signal m ρ K c 2 (dev3_eq c) rfl (O := O₁ c) rfl W) $$ [HO HtB2 Hr2]
  · isplitr; · iexact HR
    isplitl [HO]; · iexact HO
    isplitl [HtB2] <;> iassumption
  iintro HO
  -- the right operand is rounded once
  iapply (wp_load 𝒱₀ (c : Thread nD τ) none Set.univ (m := bM) (Finset.subset_univ _)) $$ Hb; iintro Hb
  rw [read_b]
  iapply (wp_load 𝒱₀ (c : Thread nD τ) none Set.univ (m := hM) (Finset.subset_univ _)) $$ Hh; iintro Hh
  iapply (wp_store 𝒱₀ (c : Thread nD τ) none Set.univ (m := hM) (r := rB) (Mk := Finset.univ) (Finset.subset_univ _)) $$ Hh; iintro Hh
  rw [write_h]
  -- two steps on
  iapply (wp_load 𝒱₀ (c : Thread nD τ) none Set.univ (m := aM) (Finset.subset_univ _)) $$ Ha; iintro Ha
  rw [readAt_rows _ _ (sent_at_two c)]
  iapply (wp_load 𝒱₀ (c : Thread nD τ) none Set.univ (m := hM) (Finset.subset_univ _)) $$ Hh; iintro Hh
  rw [read_h]
  iapply (step_peek c sM 1 rfl) $$ Hs1; iintro %v1 Hs1
  iapply (step_store c sM 1 (sent m ρ c 1)) $$ Hs1; iintro Hs1
  iapply (step_barrier m ρ K c rfl W) $$ [HcB HO HpB]
  · isplitr; · iexact HR
    isplitr; · iexact Hlev
    isplitl [HcB]; · iexact HcB
    isplitl [HO] <;> iassumption
  rw [bigSep_fin3]
  iintro ⟨HO, ⟨⟨Hd0, -⟩, ⟨Hd1, -⟩, ⟨Hd2, -⟩⟩, HzB⟩
  unfold O₁
  iapply (step_send m ρ K c 1 (dev4_eq c) rfl rfl rfl rfl (O := owedSend c 2 + owedSend c 0) rfl (insert (SemLoc.reg barS, ()) W)) $$ [HO Hs1 Hd1 HtS1 HtR1]
  · isplitr; · iexact HR
    isplitl [Hs1]; · iexact Hs1
    isplitl [Hd1]; · iexact Hd1
    isplitl [HO]; · iexact HO
    isplitl [HtS1] <;> iassumption
  iintro ⟨HcS1, HO⟩
  -- one step on
  iapply (wp_load 𝒱₀ (c : Thread nD τ) none Set.univ (m := aM) (Finset.subset_univ _)) $$ Ha; iintro Ha
  rw [readAt_rows _ _ (sent_at_one c)]
  iapply (wp_load 𝒱₀ (c : Thread nD τ) none Set.univ (m := hM) (Finset.subset_univ _)) $$ Hh; iintro Hh
  rw [read_h]
  iapply (step_peek c sM 0 rfl) $$ Hs0; iintro %v0 Hs0
  iapply (step_store c sM 0 (sent m ρ c 0)) $$ Hs0; iintro Hs0
  iapply (step_send m ρ K c 0 (dev5_eq c) rfl rfl rfl rfl (O := owedSend c 2) rfl (insert (SemLoc.reg barS, ()) W)) $$ [HO Hs0 Hd2 HtS0 HtR0]
  · isplitr; · iexact HR
    isplitl [Hs0]; · iexact Hs0
    isplitl [Hd2]; · iexact Hd2
    isplitl [HO]; · iexact HO
    isplitl [HtS0] <;> iassumption
  iintro ⟨HcS0, HO⟩
  -- three steps on
  iapply (wp_load 𝒱₀ (c : Thread nD τ) none Set.univ (m := aM) (Finset.subset_univ _)) $$ Ha; iintro Ha
  rw [readAt_rows _ _ (sent_at_three c)]
  iapply (wp_load 𝒱₀ (c : Thread nD τ) none Set.univ (m := hM) (Finset.subset_univ _)) $$ Hh; iintro Hh
  rw [read_h]
  iapply (step_peek c sM 2 rfl) $$ Hs2; iintro %v2 Hs2
  iapply (step_store c sM 2 (sent m ρ c 2)) $$ Hs2; iintro Hs2
  iapply (step_send m ρ K c 2 (dev6_eq c) rfl rfl rfl rfl (O := 0) (zero_add _).symm (insert (SemLoc.reg barS, ()) W)) $$ [HO Hs2 Hd0 HtS2 HtR2]
  · isplitr; · iexact HR
    isplitl [Hs2]; · iexact Hs2
    isplitl [Hd0]; · iexact Hd0
    isplitl [HO]; · iexact HO
    isplitl [HtS2] <;> iassumption
  iintro ⟨HcS2, HO⟩
  -- what it keeps, and what it receives
  iapply (wp_load 𝒱₀ (c : Thread nD τ) none Set.univ (m := aM) (Finset.subset_univ _)) $$ Ha; iintro Ha
  rw [readAt_rows _ _ (kept_at c)]
  iapply (wp_load 𝒱₀ (c : Thread nD τ) none Set.univ (m := hM) (Finset.subset_univ _)) $$ Hh; iintro Hh
  rw [read_h]
  iapply (step_wait_send m ρ K c 1 rfl rfl _) $$ [HcS1 HO HpS1]
  · isplitr; · iexact HR
    isplitl [HcS1]; · iexact HcS1
    isplitl [HO] <;> iassumption
  iintro ⟨HO, Hs1, HzS1⟩
  iapply (step_wait_recv m ρ K c 1 rfl rfl _) $$ [HcR1 HO HpR1]
  · isplitr; · iexact HR
    isplitl [HcR1]; · iexact HcR1
    isplitl [HO] <;> iassumption
  iintro ⟨HO, Hr1, HzR1⟩
  iapply (step_load c rM 1 (got m ρ c 1)) $$ Hr1; iintro Hr1
  iapply (step_wait_send m ρ K c 0 rfl rfl _) $$ [HcS0 HO HpS0]
  · isplitr; · iexact HR
    isplitl [HcS0]; · iexact HcS0
    isplitl [HO] <;> iassumption
  iintro ⟨HO, Hs0, HzS0⟩
  iapply (step_wait_recv m ρ K c 2 rfl rfl _) $$ [HcR2 HO HpR2]
  · isplitr; · iexact HR
    isplitl [HcR2]; · iexact HcR2
    isplitl [HO] <;> iassumption
  iintro ⟨HO, Hr2, HzR2⟩
  iapply (step_load c rM 2 (got m ρ c 2)) $$ Hr2; iintro Hr2
  iapply (step_wait_send m ρ K c 2 rfl rfl _) $$ [HcS2 HO HpS2]
  · isplitr; · iexact HR
    isplitl [HcS2]; · iexact HcS2
    isplitl [HO] <;> iassumption
  iintro ⟨HO, Hs2, HzS2⟩
  iapply (step_wait_recv m ρ K c 0 rfl rfl _) $$ [HcR0 HO HpR0]
  · isplitr; · iexact HR
    isplitl [HcR0]; · iexact HcR0
    isplitl [HO] <;> iassumption
  iintro ⟨HO, Hr0, HzR0⟩
  iapply (step_load c rM 0 (got m ρ c 0)) $$ Hr0; iintro Hr0
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_o, wp_ret]; imodintro
  iapply Hk
  unfold bodyPost Φ₁ zeros scratch Dat.owesAt Pipeline.owesWithin
  rw [show (dats m ρ 0 c).owed t0_0.succ = 0 from rfl]
  simp only [bigSep_fin3]
  isplitl [HzB HzS0 HzS1 HzS2 HzR0 HzR1 HzR2 Hh Hs0 Hs1 Hs2 Hr0 Hr1 Hr2]
  · isplitl [HzB HzS0 HzS1 HzS2 HzR0 HzR1 HzR2]
    · isplitl [HzB]; · iexact HzB
      isplitl [HzS0 HzS1 HzS2]
      · isplitl [HzS0]; · iexact HzS0
        isplitl [HzS1] <;> iassumption
      isplitl [HzR0]; · iexact HzR0
      isplitl [HzR1] <;> iassumption
    isplitl [Hh]; · iexists _; iexact Hh
    isplitl [Hs0 Hs1 Hs2]
    · isplitl [Hs0]; · iexact Hs0
      isplitl [Hs1] <;> iassumption
    isplitl [Hr0]; · iapply (full_free rM c 0 (got m ρ c 0)); iexact Hr0
    isplitl [Hr1]
    · iapply (full_free rM c 1 (got m ρ c 1)); iexact Hr1
    · iapply (full_free rM c 2 (got m ρ c 2)); iexact Hr2
  isplitl [HO]
  · iexists (insert (SemLoc.dma (recvS 0), ()) (insert (SemLoc.dma (sendS 2), ()) (insert (SemLoc.dma (recvS 2), ()) (insert (SemLoc.dma (sendS 0), ()) (insert (SemLoc.dma (recvS 1), ()) (insert (SemLoc.dma (sendS 1), ()) (insert (SemLoc.reg barS, ()) W)))))))
    isplitr; · ipureintro; exact fun _ _ => Or.inl trivial
    iexact HO
  isplitl [Ha]
  · iexists _; isplitr; · (ipureintro; rfl)
    iexact Ha
  isplitl [Hb]
  · iexists _; isplitr; · (ipureintro; rfl)
    iexact Hb
  iexists _; isplitr; · (ipureintro; rfl)
  iexact Hout

/-- The obligation the launch puts on device `c`'s body. -/
theorem body_obligation (c : Dev nD) : BodyObligation (dats (F := F) m ρ 0 c) (defs₀ (F := F)) 𝒱₀ () Set.univ := fun t => by
  rw [fin_N0 t]
  rw [bigSep_W0, bigSep_W0]
  have hw : ∀ (b : Ref sig .tc) (X : b.ty.Contents (Elt F)), (owns (Ix := Unit) (Name := ℕ) (U := UU) (Lvl := ℕ) (c : Thread nD τ) (Memref.whole b) fullShare X : sProp 𝕄)
      = whole c b X := owns_is_whole c
  simp only [hw]
  show iprop(Φ₀ m ρ c ∗ (dats m ρ 0 c).owesAt () t0_0.castSucc
      ∗ (∃ d, whole c cc0_stg0_0 ((dats m ρ 0 c).before (0 : Fin 3) t0_0 d))
      ∗ (∃ d, whole c cc0_stg1_0 ((dats m ρ 0 c).before (1 : Fin 3) t0_0 d))
      ∗ (∃ d, whole c cc0_stg2_0 ((dats m ρ 0 c).before (2 : Fin 3) t0_0 d)))
    ⊢ wp frame (wpE (defs₀ (F := F)) 𝒱₀ c none) Set.univ
      (cc0_body aM (Memref.isWhole_whole _) bM (Memref.isWhole_whole _) oM (Memref.isWhole_whole _) hM (Memref.isWhole_whole _)
        sM (Memref.isWhole_whole _) rM (Memref.isWhole_whole _) cc0_scratch3 cc0_scratch4) (fun _ => bodyPost m ρ c)
  unfold Φ₀ start
  iintro ⟨⟨⟨⟨%K, Hg⟩, Hcr, Hlev⟩, Hscr⟩, Ho, Ha, Hb, Hout⟩
  iapply (sound_body m ρ K c fun _ => bodyPost m ρ c)
  unfold bodyPre
  isplitr []
  · isplitl [Hg]; · iexact Hg
    isplitl [Hcr]; · iexact Hcr
    isplitl [Hlev]; · iexact Hlev
    isplitl [Hscr]; · iexact Hscr
    isplitl [Ho]; · iexact Ho
    isplitl [Ha]; · iexact Ha
    isplitl [Hb] <;> iassumption
  · iintro H; iexact H

end Body

end Cert.KernelIdeal.Swap
-- ==== Proof.KernelIdeal.Launch.lean ====
/-
  The launch: the ghost state dealt among the devices, the scratch buffers cut into slots, and the run.
-/
module

public import proofs.«01_k».proof.Proof.KernelIdeal.Body
public import Idealize.ShloMosaic.Lib.Ring
public import Idealize.ShloMosaic.Lib.Pipeline.CollectiveSegs

@[expose] public section

noncomputable section

namespace Cert.KernelIdeal.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Slots of a whole buffer -/

abbrev slotSet (j : Fin 3) : Finset S3x192x768.Idx := (slotR j).set

theorem slots_disjoint (j j' : Fin 3) (h : j ≠ j') : Disjoint (slotSet j) (slotSet j') :=
  Ring.lead_disjoint (s := S3x192x768) (0 : Fin 3) 1 (fun j : Fin 3 => (![j.val, 0, 0] : Fin 3 → Nat)) S1x192x768.size slot_inb
    (fun j => (Nat.one_mul _).symm) rfl j j' h

theorem slots_cover : Finset.univ.biUnion slotSet = Finset.univ :=
  Ring.lead_cover (s := S3x192x768) (0 : Fin 3) 1 (fun j : Fin 3 => (![j.val, 0, 0] : Fin 3 → Nat)) S1x192x768.size slot_inb
    (fun j => (Nat.one_mul _).symm) (fun j a ha => by fin_cases a <;> first | exact absurd rfl ha | rfl) rfl
    (fun a ha => by fin_cases a <;> first | exact absurd rfl ha | rfl) rfl

theorem slot_set_s (j : Fin 3) : (slot sM j).view.set = slotSet j := by
  simp only [Memref.view_squeeze, View.set_reshape]; exact View.set_slice_whole _ _
theorem slot_set_r (j : Fin 3) : (slot rM j).view.set = slotSet j := by
  simp only [Memref.view_squeeze, View.set_reshape]; exact View.set_slice_whole _ _

theorem free_s (c : Dev nD) (j : Fin 3) : free (F := F) sM c j = iprop(∃ f : Buf (Elt F) ((c : Thread nD τ).loc cc0_scratch1), ((c : Thread nD τ).loc cc0_scratch1) ↦[slotSet j]{fullShare} f) := by
  unfold free held; rw [slot_set_s]
theorem free_r (c : Dev nD) (j : Fin 3) : free (F := F) rM c j = iprop(∃ f : Buf (Elt F) ((c : Thread nD τ).loc cc0_scratch2), ((c : Thread nD τ).loc cc0_scratch2) ↦[slotSet j]{fullShare} f) := by
  unfold free held; rw [slot_set_r]

/-- A three-slot buffer whole at any contents is its slots at any contents; -/
theorem whole_to_slots {ℓ : Loc nD τ sig} (I : Fin 3 → Finset (Idx ℓ)) (hd : ∀ j j', j ≠ j' → Disjoint (I j) (I j')) (hc : Finset.univ.biUnion I = Finset.univ) :
    (iprop(∃ f : Buf (Elt F) ℓ, ℓ ↦{fullShare} f) : sProp 𝕄) ⊢ bigSep Finset.univ fun j => iprop(∃ f : Buf (Elt F) ℓ, ℓ ↦[I j]{fullShare} f) := by
  have h (f : Buf (Elt F) ℓ) : (ℓ ↦{fullShare} f : sProp 𝕄) ⊢ bigSep Finset.univ fun j => iprop(∃ f : Buf (Elt F) ℓ, ℓ ↦[I j]{fullShare} f) := by
    rw [Ring.pointsTo_blocks I hd hc f]
    exact bigSep_mono fun j _ => show (ℓ ↦[I j]{fullShare} f : sProp 𝕄) ⊢ iprop(∃ f : Buf (Elt F) ℓ, ℓ ↦[I j]{fullShare} f) by
      iintro H; iexists f; iexact H
  iintro ⟨%f, H⟩
  iapply (h f); iexact H

/-- and back. -/
theorem slots_to_whole {ℓ : Loc nD τ sig} (I : Fin 3 → Finset (Idx ℓ)) (hd : ∀ j j', j ≠ j' → Disjoint (I j) (I j')) (hc : Finset.univ.biUnion I = Finset.univ) :
    (bigSep Finset.univ fun j => iprop(∃ f : Buf (Elt F) ℓ, ℓ ↦[I j]{fullShare} f) : sProp 𝕄) ⊢ iprop(∃ f : Buf (Elt F) ℓ, ℓ ↦{fullShare} f) := by
  rw [bigSep_fin3]
  iintro ⟨⟨%f, H0⟩, H1, H2⟩
  iapply (Ring.pointsTo_blocks_join_exists I hd hc f)
  rw [bigSep_fin3]
  isplitl [H0]; · iexists f; iexact H0
  isplitl [H1] <;> iassumption

/-- The scratch memory as the launch hands it over and takes it back. -/
theorem scratch_of_rest (c : Dev nD) : (Pipeline.scopedRest cfg0.spec c : sProp 𝕄) ⊢ scratch c := by
  rw [scopedRest0_eq]
  unfold scratch
  simp only [free_s, free_r]
  iintro ⟨Hh, Hs, Hr⟩
  isplitl [Hh]; · iexact Hh
  isplitl [Hs]
  · iapply (whole_to_slots (ℓ := (c : Thread nD τ).loc cc0_scratch1) slotSet slots_disjoint slots_cover); iexact Hs
  · iapply (whole_to_slots (ℓ := (c : Thread nD τ).loc cc0_scratch2) slotSet slots_disjoint slots_cover); iexact Hr
theorem rest_of_scratch (c : Dev nD) : (scratch c : sProp 𝕄) ⊢ Pipeline.scopedRest cfg0.spec c := by
  rw [scopedRest0_eq]
  unfold scratch
  simp only [free_s, free_r]
  iintro ⟨Hh, Hs, Hr⟩
  isplitl [Hh]; · iexact Hh
  isplitl [Hs]
  · iapply (slots_to_whole (ℓ := (c : Thread nD τ).loc cc0_scratch1) slotSet slots_disjoint slots_cover); iexact Hs
  · iapply (slots_to_whole (ℓ := (c : Thread nD τ).loc cc0_scratch2) slotSet slots_disjoint slots_cover); iexact Hr

/-! ## Cells and tokens at launch -/

/-- The semaphores the kernel owns: three of sending, three of receiving. -/
abbrev osem : Fin 6 → SemLoc sig
  | 0 => .dma (sendS 0) | 1 => .dma (sendS 1) | 2 => .dma (sendS 2)
  | 3 => .dma (recvS 0) | 4 => .dma (recvS 1) | 5 => .dma (recvS 2)

theorem ownSemFacts : Pipeline.OwnSemFacts cfg0.spec osem := by decide

theorem share_eq (c : Dev nD) (w : Fin cfg0.W) : (dats m ρ 0 c).share w = fullShare := by unfold Dat.share; split <;> rfl

theorem semOf_injective : ∀ a b : Key, semOf a = semOf b → a = b := by decide

theorem cellAt_injective : Function.Injective cellAt := by
  rintro ⟨c, k⟩ ⟨c', k'⟩ h
  have h1 : c = c' := congrArg (fun g : GSem nD τ sig => g.1.1) h
  have h2 : k = k' := semOf_injective k k' (congrArg Prod.snd h)
  rw [h1, h2]
def allCells : Finset (GSem nD τ sig) := Finset.univ.map ⟨cellAt, cellAt_injective⟩

/-- The tokens by kind: `0` the three of a device's barrier, `1` one for each of its send cells, `2` one for each of its
    receive cells. -/
abbrev Tok := Fin 3

def tokAt (x : Dev nD × Tok × Fin 3) : GSem nD τ sig × ℕ × Fin 3 := match x.2.1 with
  | 0 => (barCell x.1, 0, x.2.2)
  | 1 => (sendCell x.1 x.2.2, 0, 0)
  | 2 => (recvCell x.1 x.2.2, 0, 0)

theorem tokAt_kind : ∀ x y : Tok × Fin 3,
    ((tokAt (0, x)).1.2, (tokAt (0, x)).2.2) = ((tokAt (0, y)).1.2, (tokAt (0, y)).2.2) → x = y := by decide

theorem tokAt_injective : Function.Injective tokAt := by
  rintro ⟨c, k, j⟩ ⟨c', k', j'⟩ h
  have h1 : c = c' := by
    have := congrArg (fun x : GSem nD τ sig × ℕ × Fin 3 => x.1.1.1) h
    fin_cases k <;> fin_cases k' <;> exact this
  have h2 : (k, j) = (k', j') := tokAt_kind _ _ (by
    have := congrArg (fun x : GSem nD τ sig × ℕ × Fin 3 => (x.1.2, x.2.2)) h
    fin_cases k <;> fin_cases k' <;> exact this)
  rw [h1, h2]
def allToks : Finset (GSem nD τ sig × ℕ × Fin 3) := Finset.univ.map ⟨tokAt, tokAt_injective⟩

/-- The launch's ghost element: the pipeline's and the exchange's. -/
def u₀ : UU :=
  (initOf (Pipeline.cells cfgs cellOf_inj) (Pipeline.launchToks cfgs cellOf_inj), initOf allCells allToks)

/-- The tokens of device `c`'s own cells. -/
def toks (c : Dev nD) : sProp 𝕄 :=
  iprop((bigSep Finset.univ fun j : Fin 3 => dutyTok ER (barCell c) 0 j)
    ∗ (bigSep Finset.univ fun s : Fin 3 => dutyTok ER (sendCell c s) 0 0)
    ∗ bigSep Finset.univ fun j : Fin 3 => dutyTok ER (recvCell c j) 0 0)

/-- What a device is dealt of it, -/
def G (c : Dev nD) : sProp 𝕄 :=
  iprop((bigSep Finset.univ fun k : Key => roundState ER (ring m ρ) (cellAt (c, k)) 0)
    ∗ (bigSep Finset.univ fun k : Key => iprop(atPos ER (cellAt (c, k)) 0 ∅ 0 ∗ reached ER (cellAt (c, k)) 0)) ∗ toks c)
/-- and what it holds once the invariants are in place and the tokens are with those that pay. -/
def G' (c : Dev nD) : sProp 𝕄 := iprop(∃ K, records m ρ K ∗ posns c ∗ pays c)

theorem fund_ring : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Key => Φ (cellAt (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_prod, bigSep_fin3]; rfl
  iintro HX
  imod (Rounds.fund ER (ring m ρ) allCells allToks) $$ HX with ⟨Hst, Hr, Hat, Htok⟩
  imodintro
  ihave Hst' := (Entails.of_eq (hX fun g => roundState ER (ring m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Counters -/

theorem ownSems0_eq (c : Dev nD) : (Pipeline.ownSems0 (Ix := Unit) (Name := ℕ) (U := UU) (Lvl := ℕ) (Val := Elt F) (τ := τ) osem c : sProp 𝕄)
    = iprop((bigSep Finset.univ fun s : Fin 3 => semVal (sendCell c s) 0) ∗ bigSep Finset.univ fun j : Fin 3 => semVal (recvCell c j) 0) := by
  rw [Pipeline.ownSems0_eq_of_list c osem [0, 1, 2, 3, 4, 5] (by decide) (by decide), bigSep_fin3, bigSep_fin3]
  exact sep_three _ _ _ _
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Key => semVal (cellAt (c, k)) 0 : sProp 𝕄) := by
  rw [ownSems0_eq, unscopedSems0_eq, bigSep_key]
  iintro ⟨⟨HS, HV⟩, HB⟩
  isplitl [HB]; · iexact HB
  isplitl [HS]; · iexact HS
  iexact HV

/-! ## The deal -/

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ring m ρ) κ (cellAt (c, k))))
          ∗ (bigSep Finset.univ fun k => iprop(atPos ER (cellAt (c, k)) 0 ∅ 0 ∗ reached ER (cellAt (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Key => semVal (cellAt (c, k)) 0) ∗ bigSep Finset.univ fun k : Key => roundState ER (ring m ρ) (cellAt (c, k)) 0)
      ⊢ (|={Set.univ}=> bigSep Finset.univ fun k => iprop(∃ κ : ℕ, cellInv ER (ring m ρ) κ (cellAt (c, k))) : sProp 𝕄) from by
        rw [← bigSep_sep']
        exact (bigSep_mono fun k _ => (Rounds.body_intro ER (ring m ρ) (cellAt (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Something for every device and slot, dealt `j + 1` steps around for slot `j`. -/
theorem deal (X : Dev nD → Fin 3 → sProp 𝕄) :
    (bigSep Finset.univ fun c : Dev nD => bigSep Finset.univ fun j : Fin 3 => X c j)
      = bigSep Finset.univ fun c : Dev nD => bigSep Finset.univ fun j : Fin 3 => X (far j c) j := by
  rw [BI.bigSep_univ_comm, BI.bigSep_univ_comm fun (c : Dev nD) (j : Fin 3) => X (far j c) j]
  exact bigSep_congr fun j _ => bigSep_univ_equiv (around j) fun c => X c j

/-- The tokens go to the devices that pay with them. -/
theorem toks_dealt : (bigSep Finset.univ fun c : Dev nD => (toks c : sProp 𝕄)) = bigSep Finset.univ fun c : Dev nD => pays c := by
  unfold toks pays
  simp only [bigSep_sep']
  rw [deal fun c j => (dutyTok ER (barCell c) 0 j : sProp 𝕄)]
  have h : (bigSep Finset.univ fun c : Dev nD => bigSep Finset.univ fun j : Fin 3 => (dutyTok ER (recvCell c j) 0 0 : sProp 𝕄))
      = bigSep Finset.univ fun c : Dev nD => bigSep Finset.univ fun s : Fin 3 => (dutyTok ER (recvCell (far s c) s.rev) 0 0 : sProp 𝕄) := by
    rw [← deal fun c s => (dutyTok ER (recvCell c s.rev) 0 0 : sProp 𝕄)]
    exact bigSep_congr fun c _ => bigSep_univ_equiv Fin.revPerm fun j : Fin 3 => (dutyTok ER (recvCell c j) 0 0 : sProp 𝕄)
  rw [h]

theorem posns_eq (c : Dev nD) : (bigSep Finset.univ fun k : Key => (atPos ER (cellAt (c, k)) 0 ∅ 0 : sProp 𝕄)) = posns c :=
  bigSep_key _

theorem hand_out (K : Dev nD × Key → ℕ) :
    iprop(records m ρ K ∗ bigSep Finset.univ fun c : Dev nD => iprop(posns c ∗ pays c)) ⊢ bigSep Finset.univ (G' m ρ) := by
  refine (sep_mono_left (BI.bigSep_of_persistent (Finset.univ : Finset (Dev nD)) (records m ρ K))).trans ?_
  rw [← bigSep_sep']
  exact bigSep_mono fun c _ => show iprop(records m ρ K ∗ posns c ∗ pays c) ⊢ G' m ρ c by
    unfold G'; iintro H; iexists K; iexact H

theorem regroup :
    (bigSep Finset.univ fun c : Dev nD => iprop((bigSep Finset.univ fun k => iprop(∃ κ : ℕ, cellInv ER (ring m ρ) κ (cellAt (c, k))))
          ∗ (bigSep Finset.univ fun k => iprop(atPos ER (cellAt (c, k)) 0 ∅ 0 ∗ reached ER (cellAt (c, k)) 0)) ∗ toks c) : sProp 𝕄)
      ⊢ bigSep Finset.univ (G' m ρ) := by
  simp only [bigSep_sep']
  rw [toks_dealt, ← bigSep_univ_prod (fun x : Dev nD × Key => iprop(∃ κ : ℕ, cellInv ER (ring m ρ) κ (cellAt x))),
    ← bigSep_univ_prod (fun x : Dev nD × Key => (reached ER (cellAt x) 0 : sProp 𝕄)),
    show (bigSep Finset.univ fun c : Dev nD => bigSep Finset.univ fun k : Key => (atPos ER (cellAt (c, k)) 0 ∅ 0 : sProp 𝕄))
      = bigSep Finset.univ fun c : Dev nD => posns c from bigSep_congr fun c _ => posns_eq c]
  iintro ⟨HI, ⟨Hat, HR⟩, Htok⟩
  ihave HK := (BI.bigSep_exists_pi Finset.univ (fun (x : Dev nD × Key) (κ : ℕ) => (cellInv ER (ring m ρ) κ (cellAt x) : sProp 𝕄))) $$ HI
  icases HK with ⟨%K, HI⟩
  iapply (hand_out m ρ K)
  unfold records
  simp only [bigSep_sep']
  isplitl [HI HR]
  · isplitl [HI] <;> iassumption
  · isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

/-- If one device alone owes the cell, the cell's credit is what it owes; -/
theorem owed_once {cell : Dev nD → GSem nD τ sig} {g : GSem nD τ sig} (d₀ : Dev nD) (h : ∀ d, cell d = g ↔ d = d₀) (n : ℕ) :
    (∑ d : Dev nD, (tallyAt (cell d) () n : CellTallies nD τ sig Unit) g ()) = n := by
  rw [Finset.sum_eq_single d₀ (fun d _ hd => by rw [tallyAt_apply, if_neg fun h' => hd ((h d).mp h'.1.symm)])
    (fun hd => absurd (Finset.mem_univ _) hd), tallyAt_apply, if_pos ⟨((h d₀).mpr rfl).symm, rfl⟩]
/-- if none does, it has none. -/
theorem owed_never {cell : Dev nD → GSem nD τ sig} {g : GSem nD τ sig} (h : ∀ d, cell d ≠ g) (n : ℕ) :
    (∑ d : Dev nD, (tallyAt (cell d) () n : CellTallies nD τ sig Unit) g ()) = 0 :=
  Finset.sum_eq_zero fun d _ => by rw [tallyAt_apply, if_neg fun h' => h d h'.1.symm]

theorem sum_O₀ (g : GSem nD τ sig) : (∑ d : Dev nD, O₀ d g ())
    = (∑ d : Dev nD, owedSend d 2 g ()) + (∑ d : Dev nD, owedSend d 0 g ()) + (∑ d : Dev nD, owedSend d 1 g ())
      + (∑ d : Dev nD, owedSig d 2 g ()) + (∑ d : Dev nD, owedSig d 1 g ()) + ∑ d : Dev nD, owedSig d 0 g () := by
  simp only [← Finset.sum_add_distrib]
  rfl

theorem bar_iff (j : Fin 3) (c d : Dev nD) : barCell (far j d) = barCell c ↔ d = far j.rev c :=
  ⟨fun h => (far_eq_iff j d c).mp (congrArg (fun g : GSem nD τ sig => g.1.1) h), fun h => congrArg barCell ((far_eq_iff j d c).mpr h)⟩

theorem recvS_injective : ∀ i j : Fin 3, recvS i = recvS j → i = j := by decide

theorem recv_iff (s j : Fin 3) (hs : s.rev = j) (c d : Dev nD) : recvCell (far s d) s.rev = recvCell c j ↔ d = far s.rev c := by
  subst hs
  exact ⟨fun h => (far_eq_iff s d c).mp (congrArg (fun g : GSem nD τ sig => g.1.1) h), fun h => by rw [(far_eq_iff s d c).mpr h]⟩
theorem recv_ne (s j : Fin 3) (hs : s.rev ≠ j) (c d : Dev nD) : recvCell (far s d) s.rev ≠ recvCell c j := fun h =>
  hs (recvS_injective _ _ (SemLoc.dma.inj (congrArg Prod.snd h)))
theorem reg_ne_dma (x : Sem sig) (y : DmaSem sig) : SemLoc.reg x ≠ SemLoc.dma y := nofun
theorem recv_ne_bar (c d : Dev nD) (j : Fin 3) : recvCell d j ≠ barCell c := fun h => reg_ne_dma _ _ (congrArg Prod.snd h).symm
theorem bar_ne_recv (c d : Dev nD) (j : Fin 3) : barCell d ≠ recvCell c j := fun h => reg_ne_dma _ _ (congrArg Prod.snd h)

theorem sig_bar (j : Fin 3) (c : Dev nD) : (∑ d : Dev nD, owedSig d j (barCell c) ()) = 1 := owed_once _ (bar_iff j c) 1
theorem sig_recv (j i : Fin 3) (c : Dev nD) : (∑ d : Dev nD, owedSig d j (recvCell c i) ()) = 0 := owed_never (fun d => bar_ne_recv _ _ _) 1
theorem send_bar (s : Fin 3) (c : Dev nD) : (∑ d : Dev nD, owedSend d s (barCell c) ()) = 0 := owed_never (fun d => recv_ne_bar _ _ _) N
theorem send_recv (s j : Fin 3) (c : Dev nD) : (∑ d : Dev nD, owedSend d s (recvCell c j) ()) = if s.rev = j then N else 0 := by
  by_cases h : s.rev = j
  · rw [if_pos h]; exact owed_once _ (recv_iff s j h c) N
  · rw [if_neg h]; exact owed_never (recv_ne s j h c) N

theorem once_of_three (n : ℕ) : ∀ j : Fin 3, (if (2 : Fin 3).rev = j then n else 0) + (if (0 : Fin 3).rev = j then n else 0)
    + (if (1 : Fin 3).rev = j then n else 0) + 0 + 0 + 0 = n := by
  intro j
  fin_cases j <;> simp [Fin.ext_iff]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, sum_O₀, send_bar, send_bar, send_bar, sig_bar, sig_bar, sig_bar]

theorem launch_recv (c : Dev nD) (j : Fin 3) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, sum_O₀, send_recv, send_recv, send_recv, sig_recv, sig_recv, sig_recv]
  exact once_of_three N j

/-- The receive semaphores among all. -/
def recvLocs : Finset (SemLoc sig) := Finset.univ.map ⟨fun j : Fin 3 => SemLoc.dma (recvS j), fun i j h => recvS_injective i j (SemLoc.dma.inj h)⟩

theorem recvLocs_sub : recvLocs ⊆ Finset.univ.erase (SemLoc.reg barS) := fun x hx => by
  obtain ⟨j, -, rfl⟩ := Finset.mem_map.mp hx
  exact Finset.mem_erase.mpr ⟨(reg_ne_dma _ _).symm, Finset.mem_univ _⟩

theorem creds (c : Dev nD) :
    (Pipeline.launchCred O₀ c : sProp 𝕄)
      ⊢ iprop(cred (tallyAt (barCell c) () 3) ∗ bigSep Finset.univ fun j : Fin 3 => cred (tallyAt (recvCell c j) () N)) := by
  unfold Pipeline.launchCred
  rw [bigSep_univ_at _ (SemLoc.reg barS), launch_bar]
  refine sep_mono_right ((bigSep_subset recvLocs_sub).trans ?_)
  unfold recvLocs
  rw [bigSep_map]
  exact Entails.of_eq (bigSep_congr fun j _ => congrArg cred (launch_recv c j))

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (scratch_of_rest c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ownSems0_eq, unscopedSems0_eq]
  unfold Φ₁ zeros
  iintro ⟨⟨HzB, HzS, HzV⟩, Hr⟩
  isplitl [HzB]; · iexact HzB
  isplitl [HzS HzV]
  · isplitl [HzS] <;> iassumption
  iapply (rest_of_scratch c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with _ | _
      · exact Or.inl rfl
      · exact Or.inr rfl)

/-- What device `c`'s arrays hold after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of four devices, from any memory with all counters at zero, every fair run of the kernel ends, with
    each device's arrays at the stated contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Swap
-- ==== Proof.KernelIdeal.Arrays.lean ====
/-
  What the arrays hold after the run: the operands what they held, the result what each device gathers.
-/
module

public import proofs.«01_k».proof.Proof.KernelIdeal.Launch
public import proofs.«01_k».proof.Proof.Gen.KernelIdeal.Points
public import Idealize.ShloMosaic.Lib.Pipeline.Value

@[expose] public section

noncomputable section

namespace Cert.KernelIdeal.Swap

open Cert.KernelIdeal Cert.KernelIdeal.Gen
open Idealize.ShloMosaic Idealize.ShloMosaic.TcCoe Idealize.SL.Sem
open Idealize.ShloMosaic.Pipeline (Dat Cfg Window)

variable {F : FTy → Type} [FloatOps F]

variable (m : (ℓ : Loc nD τ sig) → Buf (Elt F) ℓ) (ρ : Dev nD → PrngReg)

/-! ## Each window is its whole array -/

theorem read_win0 (f : (main_arg0 : Ref sig .tc).ty.Contents (Elt F)) : (win0_0.blk (0 : Fin 1)).view.read (Elt F) f = f :=
  Memref.read_access_unit_zero (Elt F) main_arg0 (funext fun _ => Nat.zero_mul _) _ f
theorem read_win1 (f : (main_arg1 : Ref sig .tc).ty.Contents (Elt F)) : (win0_1.blk (0 : Fin 1)).view.read (Elt F) f = f :=
  Memref.read_access_unit_zero (Elt F) main_arg1 (funext fun _ => Nat.zero_mul _) _ f
theorem read_win2 (f : (main_v1 : Ref sig .tc).ty.Contents (Elt F)) : (win0_2.blk (0 : Fin 1)).view.read (Elt F) f = f :=
  Memref.read_access_unit_zero (Elt F) main_v1 (funext fun _ => Nat.zero_mul _) _ f

/-- So the body computes on the device's operands as they lie in its memory. -/
theorem aAt_eq (c : Dev nD) : aAt m ρ c = m ((c : Thread nD τ).loc main_arg0) := read_win0 _
theorem bAt_eq (c : Dev nD) : bAt m ρ c = m ((c : Thread nD τ).loc main_arg1) := read_win1 _

/-! ## After the run -/

theorem final_a (c : Dev nD) : finalA m ρ c (0 : Fin 3) = m ((c : Thread nD τ).loc main_arg0) :=
  (dats (F := F) m ρ 0 c).arrAt_in (0 : Fin 3) rfl _
theorem final_b (c : Dev nD) : finalA m ρ c (1 : Fin 3) = m ((c : Thread nD τ).loc main_arg1) :=
  (dats (F := F) m ρ 0 c).arrAt_in (1 : Fin 3) rfl _

/-- The result array is written back once, and whole. -/
theorem final_out (c : Dev nD) : finalA m ρ c (2 : Fin 3) = outAt m ρ c :=
  (read_win2 _).symm.trans <| Dat.read_blk_arrAt_eq_flushed (dat := dats (F := F) m ρ 0 c) (2 : Fin 3)
    (fun t t' _ _ h => absurd (Subsingleton.elim (α := Fin 1) t t') h) 1 (0 : Fin 1) (by decide) (flush0_2 (0 : Fin 1))

/-- On the mesh of four devices, from any memory with all counters at zero, every fair run ends with each device's result
    array at what the device gathers, its operands as they were, and every counter at zero. -/
theorem run_result : θ_run defs (onTc (τ := τ) (main (F := F))) ⟨m, fun _ => 0, ρ⟩ (fun r =>
    (∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun _ h => ⟨fun c => ⟨(h.1 c (2 : Fin 3)).trans (final_out m ρ c), (h.1 c (0 : Fin 3)).trans (final_a m ρ c),
    (h.1 c (1 : Fin 3)).trans (final_b m ρ c)⟩, h.2⟩) (run_main m ρ)

/-- The same run with the result left out. -/
theorem run_frame : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun _ h => ⟨fun c => (h.1 c).2, h.2⟩) (run_result m ρ)

end Cert.KernelIdeal.Swap
-- ==== Proof.Value.Product.lean ====
/-
  What the devices gather, over the extended reals: an entry of the product, summed block by block.
-/
module

public import proofs.«01_k».proof.Proof.KernelIdeal.Values
public import Idealize.ShloMosaic.Lib.MatmulPlain
public import Idealize.ShloMosaic.Lib.StackMember
public import Idealize.ShloMosaic.Lib.KernelVsHost
public import Idealize.ShloMosaic.Lib.Layout
public import Idealize.ShloMosaic.Lib.Pointwise.Sums
public import Idealize.ShloMosaic.Lib.Pipeline.Value

@[expose] public section

noncomputable section

namespace Cert.Product

open Cert.KernelIdeal Cert.KernelIdeal.Gen Cert.KernelIdeal.Swap
open Idealize.ShloMosaic hiding ix2 eq_ix2
open Idealize.ShloMosaic.ValueIdx Idealize.ShloMosaic.TcCoe Idealize.SL.Sem
open scoped BigOperators

/-! ## One device -/

theorem row_lt (q : Dev nD) (r : Fin 192) : 192 * q.val + r.val < 768 := by
  have h : q.val < 4 := q.isLt
  omega

/-- Row `r` of device `q`'s chunk, among all rows. -/
def rowAt (q : Dev nD) (r : Fin 192) : Fin 768 := ⟨192 * q.val + r.val, row_lt q r⟩

/-- Device `q`'s chunk of rows, read at an index. -/
theorem rows_apply (a : Vec Ideal S768x384 .f32) (q : Dev nD) (r : Fin 192) (k : Fin 384) :
    rows a q (ix2 r k) = a (ix2 (rowAt q r) k) := by
  refine congrArg a ?_
  funext x
  apply Fin.ext
  match x with
  | ⟨0, _⟩ => exact congrArg (192 * q.val + ·) (Nat.one_mul r.val)
  | ⟨1, _⟩ => exact (Nat.zero_add _).trans (Nat.one_mul k.val)

/-- An entry of an addend: a row of `a` times a column of `b`. -/
theorem addend_apply (a : Vec Ideal S768x384 .f32) (b : Vec Ideal S384x768 .f32) (q : Dev nD) (r : Fin 192) (l : Fin 768) :
    addend a b q (ix2 r l) = ∑ k : Fin 384, a (ix2 (rowAt q r) k) * b (ix2 k l) := by
  have h : addend a b q = matmul (F := Ideal) (DotDims.plain 192 384 768) none
      (shapeCast S192x384 (rows a q) shapeCasts_S192x384_S192x384 : FVec Ideal ⟨2, ![192, 384]⟩ .bf16)
      (shapeCast S384x768 (shapeCast S384x768 b shapeCasts_S384x768_S384x768) shapeCasts_S384x768_S384x768 : FVec Ideal ⟨2, ![384, 768]⟩ .bf16)
      (constant S192x768 .f32 0x00000000#32) := rfl
  rw [h, shapeCast_self, shapeCast_self, shapeCast_self, matmul_zero_eq_dotGeneral, StackMember.dotGeneral_plain_apply]
  exact Finset.sum_congr rfl fun k _ => congrArg (· * _) (rows_apply a q r k)

/-! ## The sum over the devices -/

/-- A chunk travels unchanged. -/
theorem unpacked (x : FVec Ideal S192x768 .f32) :
    (extf .f32 (shapeCast S192x768 (k0_pay4 x) shapeCasts_S1x192x768_S192x768 : FVec Ideal S192x768 .bf16) bitsLt_bf16_f32 : FVec Ideal S192x768 .f32) = x :=
  shapeCast_shapeCast (t := S1x192x768) x shapeCasts_S192x768_S1x192x768 shapeCasts_S1x192x768_S192x768

/-- A device's result adds the four chunks up. -/
theorem gathered_apply (own : FVec Ideal S192x768 .f32) (x : Fin 3 → FVec Ideal S192x768 .f32) (i : S192x768.Idx) :
    gathered own (fun j => k0_pay4 (x j)) i = own i + x 1 i + x 2 i + x 0 i := by
  have h : gathered own (fun j => k0_pay4 (x j)) = addf (addf (addf own
      (extf .f32 (shapeCast S192x768 (k0_pay4 (x 1)) shapeCasts_S1x192x768_S192x768 : FVec Ideal S192x768 .bf16) bitsLt_bf16_f32))
      (extf .f32 (shapeCast S192x768 (k0_pay4 (x 2)) shapeCasts_S1x192x768_S192x768 : FVec Ideal S192x768 .bf16) bitsLt_bf16_f32))
      (extf .f32 (shapeCast S192x768 (k0_pay4 (x 0)) shapeCasts_S1x192x768_S192x768 : FVec Ideal S192x768 .bf16) bitsLt_bf16_f32) := rfl
  rw [h, unpacked, unpacked, unpacked]
  rfl

/-- Starting anywhere, the four devices are the one and the three further on. -/
theorem sum_around {M : Type*} [AddCommMonoid M] (f : Dev nD → M) (c : Dev nD) :
    f c + f (far 1 c) + f (far 2 c) + f (far 0 c) = ∑ d : Dev nD, f d := by
  have hs : ∀ c : Dev nD, (Finset.univ : Finset (Dev nD)) = {c, far 1 c, far 2 c, far 0 c} := by decide
  have h1 : ∀ c : Dev nD, c ∉ ({far 1 c, far 2 c, far 0 c} : Finset (Dev nD)) := by decide
  have h2 : ∀ c : Dev nD, far 1 c ∉ ({far 2 c, far 0 c} : Finset (Dev nD)) := by decide
  have h3 : ∀ c : Dev nD, far 2 c ∉ ({far 0 c} : Finset (Dev nD)) := by decide
  rw [hs c, Finset.sum_insert (h1 c), Finset.sum_insert (h2 c), Finset.sum_insert (h3 c), Finset.sum_singleton, add_assoc, add_assoc]

/-! ## The whole product -/

/-- The product of the whole operands. -/
abbrev whole (A : FVec Ideal ⟨2, ![768, 1536]⟩ .f32) (B : FVec Ideal ⟨2, ![1536, 768]⟩ .f32) : FVec Ideal ⟨2, ![768, 768]⟩ .f32 :=
  Host.dotGeneral (DotDims.plain 768 1536 768) none A B

theorem col_lt (d : Dev nD) (k : Fin 384) : d.val * 384 + k.val < 1536 := by
  have h : d.val < 4 := d.isLt
  omega

/-- Block `c` of the rows of the product is the sum over the devices of their addends' chunks `c`: device `d` holds block `d`
    of the columns of `A` and of the rows of `B`. -/
theorem block_product (A : FVec Ideal ⟨2, ![768, 1536]⟩ .f32) (B : FVec Ideal ⟨2, ![1536, 768]⟩ .f32)
    (a : Dev nD → Vec Ideal S768x384 .f32) (b : Dev nD → Vec Ideal S384x768 .f32)
    (ha : ∀ d, a d = Layout.block ⟨2, ![768, 384]⟩ ⟨2, ![768, 1536]⟩ 1 4 d A)
    (hb : ∀ d, b d = Layout.block ⟨2, ![384, 768]⟩ ⟨2, ![1536, 768]⟩ 0 4 d B) (c : Dev nD) :
    gathered (addend (a c) (b c) c) (fun j => packed (a (far j c)) (b (far j c)) c)
      = Layout.block ⟨2, ![192, 768]⟩ ⟨2, ![768, 768]⟩ 0 4 c (whole A B) := by
  funext i
  obtain ⟨r, l, rfl⟩ : ∃ (r : Fin 192) (l : Fin 768), i = ix2 r l := ⟨i 0, i 1, eq_ix2 i⟩
  have hsum := sum_around (fun d => addend (a d) (b d) c (ix2 r l)) c
  refine ((gathered_apply _ (fun j => addend (a (far j c)) (b (far j c)) c) _).trans hsum).trans ?_
  rw [Layout.block_apply]
  have hi : (by decide : Layout.Tiles (⟨2, ![192, 768]⟩ : Shape) ⟨2, ![768, 768]⟩ 0 4).idx c (ix2 r l) = ix2 (rowAt c r) l := by
    funext x
    apply Fin.ext
    match x with
    | ⟨0, _⟩ => exact congrArg (· + r.val) (Nat.mul_comm c.val 192)
    | ⟨1, _⟩ => rfl
  unfold whole
  rw [hi, StackMember.dotGeneral_plain_apply, Fin.sum_univ_tiles 4 384 rfl]
  refine Finset.sum_congr rfl fun d _ => ?_
  rw [addend_apply, ha, hb]
  refine Finset.sum_congr rfl fun k _ => ?_
  rw [Layout.block_apply, Layout.block_apply]
  congr 2 <;> (congr 1; funext x; apply Fin.ext; match x with | ⟨0, _⟩ => rfl | ⟨1, _⟩ => rfl)

end Cert.Product
-- ==== Proof.Value.Equation.lean ====
/-
  Kernel and reference over the extended reals: each device ends with its block of rows of the product.
-/
module

public import proofs.«01_k».proof.Proof.KernelIdeal.Arrays
public import proofs.«01_k».proof.Proof.Value.Product
public import proofs.«01_k».proof.Proof.Gen.ReferenceIdeal.Run

@[expose] public section

noncomputable section

namespace Cert.Product

open Cert.KernelIdeal Cert.KernelIdeal.Gen Cert.KernelIdeal.Swap
open Idealize.ShloMosaic Idealize.ShloMosaic.TcCoe Idealize.SL.Sem

/-- If the devices hold the blocks of columns of `A` and of rows of `B`, device `c` gathers block `c` of the rows of their
    product. -/
theorem outAt_eq (m : (ℓ : Loc nD τ sig) → Buf (Elt Ideal) ℓ) (ρ : Dev nD → PrngReg)
    (A : FVec Ideal ⟨2, ![768, 1536]⟩ .f32) (B : FVec Ideal ⟨2, ![1536, 768]⟩ .f32)
    (hA : ∀ c : Dev nD, m ((c : Thread nD τ).loc main_arg0) = Layout.block ⟨2, ![768, 384]⟩ ⟨2, ![768, 1536]⟩ 1 4 c A)
    (hB : ∀ c : Dev nD, m ((c : Thread nD τ).loc main_arg1) = Layout.block ⟨2, ![384, 768]⟩ ⟨2, ![1536, 768]⟩ 0 4 c B) (c : Dev nD) :
    outAt m ρ c = Layout.block ⟨2, ![192, 768]⟩ ⟨2, ![768, 768]⟩ 0 4 c (whole A B) := by
  have hgot : got m ρ c = fun j => packed (aAt m ρ (far j c)) (bAt m ρ (far j c)) c := funext fun j => by
    unfold got sent
    rw [far_rev_far]
  unfold outAt
  rw [hgot]
  exact block_product A B (aAt m ρ) (bAt m ρ) (fun d => (aAt_eq m ρ d).trans (hA d)) (fun d => (bAt_eq m ρ d).trans (hB d)) c

/-- The reference's run: its result is the product of its arguments, which it leaves unchanged. -/
theorem reference_run (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal))) ⟨m, fun _ => 0, ρ⟩ fun r =>
      ∀ c : Dev ReferenceIdeal.nD,
        r.2.mem ((c.tc : Thread ReferenceIdeal.nD ReferenceIdeal.τ).loc ReferenceIdeal.main_v0)
            = whole (m ((c.tc : Thread ReferenceIdeal.nD ReferenceIdeal.τ).loc ReferenceIdeal.main_arg0))
                (m ((c.tc : Thread ReferenceIdeal.nD ReferenceIdeal.τ).loc ReferenceIdeal.main_arg1))
        ∧ r.2.mem ((c.tc : Thread ReferenceIdeal.nD ReferenceIdeal.τ).loc ReferenceIdeal.main_arg0)
            = m ((c.tc : Thread ReferenceIdeal.nD ReferenceIdeal.τ).loc ReferenceIdeal.main_arg0)
        ∧ r.2.mem ((c.tc : Thread ReferenceIdeal.nD ReferenceIdeal.τ).loc ReferenceIdeal.main_arg1)
            = m ((c.tc : Thread ReferenceIdeal.nD ReferenceIdeal.τ).loc ReferenceIdeal.main_arg1) :=
  ReferenceIdeal.Value.run m ρ

end Cert.Product
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Arrays
public import proofs.«01_k».proof.Proof.KernelIdeal.Arrays
public import proofs.«01_k».proof.Proof.Value.Equation
public import Idealize.ShloMosaic.Adequacy
public import Idealize.ShloMosaic.Init

@[expose] public section

noncomputable section

namespace Cert.Proof

open Idealize.ShloMosaic Idealize.SL.Sem Cert.Kernel

/-- The reference ends with its arguments unchanged and, having no semaphores, with every counter at zero. -/
theorem frame_reference : Cert.quiescent_ReferenceIdeal := fun m ρ _ =>
  (θ_run _ _ _).mono (fun r h => ⟨fun c => (h c).2, sem_eq_zero_of_no_sems (by decide) r.2⟩) (Product.reference_run m ρ)

/-- Device `c` ends with block `c` of the rows of the reference's result. -/
theorem same_product : Cert.algebraic_KernelIdeal_ReferenceIdeal := fun m ρ m' ρ' _ h =>
  ⟨_, (θ_run _ _ _).mono (fun _ hr c => ⟨((hr.1 c).1).trans (Product.outAt_eq m ρ _ _ (fun d => (h d).1) (fun d => (h d).2) c), (hr.1 c).2⟩)
      (KernelIdeal.Swap.run_result m ρ),
    (θ_run _ _ _).mono (fun _ hr => hr 0) (Product.reference_run m' ρ')⟩

theorem claim : Cert.Claim := ⟨Cert.Kernel.Gen.facts, Cert.KernelIdeal.Gen.facts, Cert.ReferenceIdeal.Gen.facts,
  fun m ρ _ => Kernel.Swap.run_frame m ρ, fun m ρ _ => KernelIdeal.Swap.run_frame m ρ, frame_reference, trivial, same_product⟩

end Cert.Proof

end
